-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_slots_distinct_KernelIdeal [hPre_slots_distinct_KernelIdeal : Cert.Pre_slots_distinct_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_slots_distinct_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_slots_distinct_ReferenceIdeal [hPre_slots_distinct_ReferenceIdeal : Cert.Pre_slots_distinct_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_slots_distinct_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_slots_distinct_KernelIdeal [hKernelIdeal : Cert.KernelIdeal.Facts] [hPre_slots_distinct_KernelIdeal : Cert.Pre_slots_distinct_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_slots_distinct_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_slots_distinct_ReferenceIdeal [hReferenceIdeal : Cert.ReferenceIdeal.Facts] [hPre_slots_distinct_ReferenceIdeal : Cert.Pre_slots_distinct_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_slots_distinct_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_slots_distinct_KernelIdeal [hKernelIdeal : Cert.KernelIdeal.Facts] [hReferenceIdeal : Cert.ReferenceIdeal.Facts] [hPre_slots_distinct_KernelIdeal : Cert.Pre_slots_distinct_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_slots_distinct_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 1]⟩ ⟨2, ![16384, 1]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 1]⟩ ⟨2, ![16384, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 1]⟩ ⟨2, ![16384, 1]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![2048, 1]⟩ ⟨2, ![16384, 1]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨3, ![8, 1024, 1024]⟩ ⟨3, ![64, 1024, 1024]⟩ 0 8 c (m' (((0 : Dev Cert.ReferenceIdeal.nD).tc : Thread Cert.ReferenceIdeal.nD Cert.ReferenceIdeal.τ).loc Cert.ReferenceIdeal.main_arg5))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![2048, 1024]⟩ ⟨2, ![16384, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_slots_distinct_KernelIdeal : Cert.Pre_slots_distinct_KernelIdeal.Facts) (hPre_slots_distinct_ReferenceIdeal : Cert.Pre_slots_distinct_ReferenceIdeal.Facts),
    quiescent_Kernel (hKernel := hKernel)
    ∧ quiescent_KernelIdeal (hKernelIdeal := hKernelIdeal)
    ∧ quiescent_KernelIdeal_pre_slots_distinct_KernelIdeal (hKernelIdeal := hKernelIdeal) (hPre_slots_distinct_KernelIdeal := hPre_slots_distinct_KernelIdeal)
    ∧ quiescent_ReferenceIdeal (hReferenceIdeal := hReferenceIdeal)
    ∧ quiescent_ReferenceIdeal_pre_slots_distinct_ReferenceIdeal (hReferenceIdeal := hReferenceIdeal) (hPre_slots_distinct_ReferenceIdeal := hPre_slots_distinct_ReferenceIdeal)
    ∧ preserves_Kernel_KernelIdeal
    ∧ algebraic_KernelIdeal_ReferenceIdeal_pre_slots_distinct_KernelIdeal (hKernelIdeal := hKernelIdeal) (hReferenceIdeal := hReferenceIdeal) (hPre_slots_distinct_KernelIdeal := hPre_slots_distinct_KernelIdeal)
-- ==== Pre_slots_distinct_KernelIdeal.lean ====
abbrev S2048x1024 : Shape := ⟨2, ![2048, 1024]⟩
abbrev S2048x1 : Shape := ⟨2, ![2048, 1]⟩
abbrev S8x1024x1024 : Shape := ⟨3, ![8, 1024, 1024]⟩
abbrev S2048x2048 : Shape := ⟨2, ![2048, 2048]⟩
abbrev S_ : Shape := ⟨0, ![]⟩
abbrev S1x2048 : Shape := ⟨2, ![1, 2048]⟩

class Facts : Prop where
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  transposes_S2048x1_S1x2048_1_0 : S2048x1.Transposes [1, 0] S1x2048
  bcast_S1x2048_S2048x2048_0_1 : S1x2048.BroadcastsInDim S2048x2048 (![0, 1] : Fin 2 → Fin S2048x2048.rank)

variable [Facts]

def fn_part1 {F : FTy → Type} [FloatOps F] (main_arg1 : IVec S2048x1 32) (main_arg2 : IVec S2048x1 32) (main_v0 : IVec S2048x2048 32) (main_v1 : IVec S2048x2048 32) (main_v6 : IVec S2048x1 1) (main_v11 : IVec S2048x1 1) (main_v19 : IVec S2048x2048 1) : IVec S2048x2048 1 :=
  let main_v20 : IVec S2048x2048 1 := cmpi .eq main_v0 main_v1
  let main_v21 : IVec S2048x2048 1 := broadcastInDim S2048x2048 ![0, 1] bcast_S2048x1_S2048x2048_0_1 main_v11
  let main_v22 : IVec S2048x2048 1 := ori main_v21 main_v20
  let main_v23 : IVec S1x2048 32 := (transpose S1x2048 [1, 0] · transposes_S2048x1_S1x2048_1_0) main_arg2
  let main_v24 : IVec S2048x2048 32 := broadcastInDim S2048x2048 ![0, 1] bcast_S2048x1_S2048x2048_0_1 main_arg2
  let main_v25 : IVec S2048x2048 32 := broadcastInDim S2048x2048 ![0, 1] bcast_S1x2048_S2048x2048_0_1 main_v23
  let main_v26 : IVec S2048x2048 1 := cmpi .ne main_v24 main_v25
  let main_v27 : IVec S2048x2048 1 := ori main_v22 main_v26
  let main_v28 : IVec S2048x2048 1 := andi main_v19 main_v27
  let main_v29 : IVec S1x2048 32 := (transpose S1x2048 [1, 0] · transposes_S2048x1_S1x2048_1_0) main_arg2
  let main_v30 : IVec S2048x2048 32 := broadcastInDim S2048x2048 ![0, 1] bcast_S2048x1_S2048x2048_0_1 main_arg1
  let main_v31 : IVec S2048x2048 32 := broadcastInDim S2048x2048 ![0, 1] bcast_S1x2048_S2048x2048_0_1 main_v29
  let main_v32 : IVec S2048x2048 1 := cmpi .ne main_v30 main_v31
  let main_v33 : IVec S2048x2048 1 := broadcastInDim S2048x2048 ![0, 1] bcast_S2048x1_S2048x2048_0_1 main_v6
  let main_v34 : IVec S2048x2048 1 := ori main_v33 main_v32
  let main_v35 : IVec S2048x2048 1 := andi main_v28 main_v34
  main_v35

def fn {F : FTy → Type} [FloatOps F] (main_arg0 : FVec F S2048x1024 .f32) (main_arg1 : IVec S2048x1 32) (main_arg2 : IVec S2048x1 32) (main_arg3 : FVec F S2048x1 .f32) (main_arg4 : FVec F S2048x1 .f32) (main_arg5 : FVec F S8x1024x1024 .bf16) : IVec S2048x2048 1 :=
  let main_v0 : IVec S2048x2048 32 := iotaInDim S2048x2048 32 0
  let main_v1 : IVec S2048x2048 32 := iotaInDim S2048x2048 32 1
  let main_c : IVec S_ 32 := constantI S_ 32 0#32
  let main_v2 : IVec S2048x1 32 := broadcastInDim S2048x1 ![] bcast_S_S2048x1 main_c
  let main_v3 : IVec S2048x1 1 := cmpi .slt main_arg1 main_v2
  let main_c_0 : IVec S_ 32 := constantI S_ 32 8192#32
  let main_v4 : IVec S2048x1 32 := broadcastInDim S2048x1 ![] bcast_S_S2048x1 main_c_0
  let main_v5 : IVec S2048x1 1 := cmpi .sge main_arg1 main_v4
  let main_v6 : IVec S2048x1 1 := ori main_v3 main_v5
  let main_c_1 : IVec S_ 32 := constantI S_ 32 0#32
  let main_v7 : IVec S2048x1 32 := broadcastInDim S2048x1 ![] bcast_S_S2048x1 main_c_1
  let main_v8 : IVec S2048x1 1 := cmpi .slt main_arg2 main_v7
  let main_c_2 : IVec S_ 32 := constantI S_ 32 8192#32
  let main_v9 : IVec S2048x1 32 := broadcastInDim S2048x1 ![] bcast_S_S2048x1 main_c_2
  let main_v10 : IVec S2048x1 1 := cmpi .sge main_arg2 main_v9
  let main_v11 : IVec S2048x1 1 := ori main_v8 main_v10
  let main_v12 : IVec S2048x2048 1 := cmpi .eq main_v0 main_v1
  let main_v13 : IVec S2048x2048 1 := broadcastInDim S2048x2048 ![0, 1] bcast_S2048x1_S2048x2048_0_1 main_v6
  let main_v14 : IVec S2048x2048 1 := ori main_v13 main_v12
  let main_v15 : IVec S1x2048 32 := (transpose S1x2048 [1, 0] · transposes_S2048x1_S1x2048_1_0) main_arg1
  let main_v16 : IVec S2048x2048 32 := broadcastInDim S2048x2048 ![0, 1] bcast_S2048x1_S2048x2048_0_1 main_arg1
  let main_v17 : IVec S2048x2048 32 := broadcastInDim S2048x2048 ![0, 1] bcast_S1x2048_S2048x2048_0_1 main_v15
  let main_v18 : IVec S2048x2048 1 := cmpi .ne main_v16 main_v17
  let main_v19 : IVec S2048x2048 1 := ori main_v14 main_v18
  fn_part1 (F := F) main_arg1 main_arg2 main_v0 main_v1 main_v6 main_v11 main_v19
-- ==== Pre_slots_distinct_ReferenceIdeal.lean ====
abbrev S16384x1024 : Shape := ⟨2, ![16384, 1024]⟩
abbrev S16384x1 : Shape := ⟨2, ![16384, 1]⟩
abbrev S64x1024x1024 : Shape := ⟨3, ![64, 1024, 1024]⟩
abbrev S16384x16384 : Shape := ⟨2, ![16384, 16384]⟩
abbrev S_ : Shape := ⟨0, ![]⟩
abbrev S1x16384 : Shape := ⟨2, ![1, 16384]⟩

class Facts : Prop where
  bcast_S_S16384x1 : S_.BroadcastsInDim S16384x1 (![] : Fin 0 → Fin S16384x1.rank)
  bcast_S16384x1_S16384x16384_0_1 : S16384x1.BroadcastsInDim S16384x16384 (![0, 1] : Fin 2 → Fin S16384x16384.rank)
  transposes_S16384x1_S1x16384_1_0 : S16384x1.Transposes [1, 0] S1x16384
  bcast_S1x16384_S16384x16384_0_1 : S1x16384.BroadcastsInDim S16384x16384 (![0, 1] : Fin 2 → Fin S16384x16384.rank)

variable [Facts]

def fn_part1 {F : FTy → Type} [FloatOps F] (main_arg1 : IVec S16384x1 32) (main_arg2 : IVec S16384x1 32) (main_v0 : IVec S16384x16384 32) (main_v1 : IVec S16384x16384 32) (main_v6 : IVec S16384x1 1) (main_v11 : IVec S16384x1 1) (main_v19 : IVec S16384x16384 1) : IVec S16384x16384 1 :=
  let main_v20 : IVec S16384x16384 1 := cmpi .eq main_v0 main_v1
  let main_v21 : IVec S16384x16384 1 := broadcastInDim S16384x16384 ![0, 1] bcast_S16384x1_S16384x16384_0_1 main_v11
  let main_v22 : IVec S16384x16384 1 := ori main_v21 main_v20
  let main_v23 : IVec S1x16384 32 := (transpose S1x16384 [1, 0] · transposes_S16384x1_S1x16384_1_0) main_arg2
  let main_v24 : IVec S16384x16384 32 := broadcastInDim S16384x16384 ![0, 1] bcast_S16384x1_S16384x16384_0_1 main_arg2
  let main_v25 : IVec S16384x16384 32 := broadcastInDim S16384x16384 ![0, 1] bcast_S1x16384_S16384x16384_0_1 main_v23
  let main_v26 : IVec S16384x16384 1 := cmpi .ne main_v24 main_v25
  let main_v27 : IVec S16384x16384 1 := ori main_v22 main_v26
  let main_v28 : IVec S16384x16384 1 := andi main_v19 main_v27
  let main_v29 : IVec S1x16384 32 := (transpose S1x16384 [1, 0] · transposes_S16384x1_S1x16384_1_0) main_arg2
  let main_v30 : IVec S16384x16384 32 := broadcastInDim S16384x16384 ![0, 1] bcast_S16384x1_S16384x16384_0_1 main_arg1
  let main_v31 : IVec S16384x16384 32 := broadcastInDim S16384x16384 ![0, 1] bcast_S1x16384_S16384x16384_0_1 main_v29
  let main_v32 : IVec S16384x16384 1 := cmpi .ne main_v30 main_v31
  let main_v33 : IVec S16384x16384 1 := broadcastInDim S16384x16384 ![0, 1] bcast_S16384x1_S16384x16384_0_1 main_v6
  let main_v34 : IVec S16384x16384 1 := ori main_v33 main_v32
  let main_v35 : IVec S16384x16384 1 := andi main_v28 main_v34
  main_v35

def fn {F : FTy → Type} [FloatOps F] (main_arg0 : FVec F S16384x1024 .f32) (main_arg1 : IVec S16384x1 32) (main_arg2 : IVec S16384x1 32) (main_arg3 : FVec F S16384x1 .f32) (main_arg4 : FVec F S16384x1 .f32) (main_arg5 : FVec F S64x1024x1024 .bf16) : IVec S16384x16384 1 :=
  let main_v0 : IVec S16384x16384 32 := iotaInDim S16384x16384 32 0
  let main_v1 : IVec S16384x16384 32 := iotaInDim S16384x16384 32 1
  let main_c : IVec S_ 32 := constantI S_ 32 0#32
  let main_v2 : IVec S16384x1 32 := broadcastInDim S16384x1 ![] bcast_S_S16384x1 main_c
  let main_v3 : IVec S16384x1 1 := cmpi .slt main_arg1 main_v2
  let main_c_0 : IVec S_ 32 := constantI S_ 32 8192#32
  let main_v4 : IVec S16384x1 32 := broadcastInDim S16384x1 ![] bcast_S_S16384x1 main_c_0
  let main_v5 : IVec S16384x1 1 := cmpi .sge main_arg1 main_v4
  let main_v6 : IVec S16384x1 1 := ori main_v3 main_v5
  let main_c_1 : IVec S_ 32 := constantI S_ 32 0#32
  let main_v7 : IVec S16384x1 32 := broadcastInDim S16384x1 ![] bcast_S_S16384x1 main_c_1
  let main_v8 : IVec S16384x1 1 := cmpi .slt main_arg2 main_v7
  let main_c_2 : IVec S_ 32 := constantI S_ 32 8192#32
  let main_v9 : IVec S16384x1 32 := broadcastInDim S16384x1 ![] bcast_S_S16384x1 main_c_2
  let main_v10 : IVec S16384x1 1 := cmpi .sge main_arg2 main_v9
  let main_v11 : IVec S16384x1 1 := ori main_v8 main_v10
  let main_v12 : IVec S16384x16384 1 := cmpi .eq main_v0 main_v1
  let main_v13 : IVec S16384x16384 1 := broadcastInDim S16384x16384 ![0, 1] bcast_S16384x1_S16384x16384_0_1 main_v6
  let main_v14 : IVec S16384x16384 1 := ori main_v13 main_v12
  let main_v15 : IVec S1x16384 32 := (transpose S1x16384 [1, 0] · transposes_S16384x1_S1x16384_1_0) main_arg1
  let main_v16 : IVec S16384x16384 32 := broadcastInDim S16384x16384 ![0, 1] bcast_S16384x1_S16384x16384_0_1 main_arg1
  let main_v17 : IVec S16384x16384 32 := broadcastInDim S16384x16384 ![0, 1] bcast_S1x16384_S16384x16384_0_1 main_v15
  let main_v18 : IVec S16384x16384 1 := cmpi .ne main_v16 main_v17
  let main_v19 : IVec S16384x16384 1 := ori main_v14 main_v18
  fn_part1 (F := F) main_arg1 main_arg2 main_v0 main_v1 main_v6 main_v11 main_v19
-- ==== Kernel.lean ====
abbrev S2048x1024 : Shape := ⟨2, ![2048, 1024]⟩
abbrev S2048x1 : Shape := ⟨2, ![2048, 1]⟩
abbrev S8x1024x1024 : Shape := ⟨3, ![8, 1024, 1024]⟩
abbrev S2x8x128x1024 : Shape := ⟨4, ![2, 8, 128, 1024]⟩
abbrev S2x1024x1024 : Shape := ⟨3, ![2, 1024, 1024]⟩
abbrev S1024x1024 : Shape := ⟨2, ![1024, 1024]⟩
abbrev S_ : Shape := ⟨0, ![]⟩
abbrev S2 : Shape := ⟨1, ![2]⟩
abbrev S7 : Shape := ⟨1, ![7]⟩
abbrev S1x2048 : Shape := ⟨2, ![1, 2048]⟩
abbrev S1024x2048 : Shape := ⟨2, ![1024, 2048]⟩
abbrev S1x1024x1024 : Shape := ⟨3, ![1, 1024, 1024]⟩
abbrev S1 : Shape := ⟨1, ![1]⟩
abbrev S1x8x128x1024 : Shape := ⟨4, ![1, 8, 128, 1024]⟩
abbrev S8x128x1024 : Shape := ⟨3, ![8, 128, 1024]⟩

abbrev nBuf : Space → Nat
  | .hbm => 10
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S2048x1, .i32⟩
  | .hbm, ⟨2, _⟩ => ⟨S2048x1, .i32⟩
  | .hbm, ⟨3, _⟩ => ⟨S2048x1, .f32⟩
  | .hbm, ⟨4, _⟩ => ⟨S2048x1, .f32⟩
  | .hbm, ⟨5, _⟩ => ⟨S8x1024x1024, .bf16⟩
  | .hbm, ⟨6, _⟩ => ⟨S2048x1024, .f32⟩
  | .hbm, ⟨7, _⟩ => ⟨S8x1024x1024, .bf16⟩
  | .hbm, ⟨8, _⟩ => ⟨S8x1024x1024, .bf16⟩
  | .hbm, ⟨9, _⟩ => ⟨S8x1024x1024, .bf16⟩
  | .local _ .vmem, ⟨0, _⟩ => ⟨S2048x1024, .f32⟩
  | .local _ .vmem, ⟨1, _⟩ => ⟨S2048x1, .i32⟩
  | .local _ .vmem, ⟨2, _⟩ => ⟨S2048x1, .i32⟩
  | .local _ .vmem, ⟨3, _⟩ => ⟨S2048x1, .f32⟩
  | .local _ .vmem, ⟨4, _⟩ => ⟨S2048x1, .f32⟩
  | .local _ .vmem, ⟨5, _⟩ => ⟨S2048x1024, .f32⟩
  | .local _ .vmem, ⟨6, _⟩ => ⟨S8x1024x1024, .bf16⟩
  | .local _ .vmem, ⟨7, _⟩ => ⟨S2x8x128x1024, .bf16⟩
  | .local _ .vmem, ⟨8, _⟩ => ⟨S2x1024x1024, .bf16⟩
  | .local _ .vmem, ⟨9, _⟩ => ⟨S2x8x128x1024, .bf16⟩
  | .local _ .vmem, ⟨10, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 8
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let c0_i32_11 : BitVec 32 := 0#32
  ![v2.toNat, 0, 0]
def k0_dev1 (d0 : Dev nD) : Nat :=
  let c0_i32_24 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v35 : BitVec 32 := Scalar.addi v2 c1_i32_14
  let c8_i32_15 : BitVec 32 := 8#32
  let v36 : BitVec 32 := Scalar.remsi v35 c8_i32_15
  let c1_i32_23 : BitVec 32 := 1#32
  let v53 : BitVec 32 := Scalar.muli v36 c1_i32_23
  let v54 : BitVec 32 := Scalar.addi c0_i32_24 v53
  v54.toNat
def k0_dev2 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v63 : BitVec 32 := Scalar.addi v2 c2_i32
  let c8_i32_29 : BitVec 32 := 8#32
  let v64 : BitVec 32 := Scalar.remsi v63 c8_i32_29
  let c1_i32_37 : BitVec 32 := 1#32
  let v81 : BitVec 32 := Scalar.muli v64 c1_i32_37
  let v82 : BitVec 32 := Scalar.addi c0_i32_38 v81
  v82.toNat
def k0_dev3 (d0 : Dev nD) : Nat :=
  let c0_i32_52 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v91 : BitVec 32 := Scalar.addi v2 c3_i32
  let c8_i32_43 : BitVec 32 := 8#32
  let v92 : BitVec 32 := Scalar.remsi v91 c8_i32_43
  let c1_i32_51 : BitVec 32 := 1#32
  let v109 : BitVec 32 := Scalar.muli v92 c1_i32_51
  let v110 : BitVec 32 := Scalar.addi c0_i32_52 v109
  v110.toNat
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v119 : BitVec 32 := Scalar.addi v2 c4_i32
  let c8_i32_57 : BitVec 32 := 8#32
  let v120 : BitVec 32 := Scalar.remsi v119 c8_i32_57
  let c1_i32_65 : BitVec 32 := 1#32
  let v137 : BitVec 32 := Scalar.muli v120 c1_i32_65
  let v138 : BitVec 32 := Scalar.addi c0_i32_66 v137
  v138.toNat
def k0_dev5 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v147 : BitVec 32 := Scalar.addi v2 c5_i32
  let c8_i32_71 : BitVec 32 := 8#32
  let v148 : BitVec 32 := Scalar.remsi v147 c8_i32_71
  let c1_i32_79 : BitVec 32 := 1#32
  let v165 : BitVec 32 := Scalar.muli v148 c1_i32_79
  let v166 : BitVec 32 := Scalar.addi c0_i32_80 v165
  v166.toNat
def k0_dev6 (d0 : Dev nD) : Nat :=
  let c0_i32_94 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v175 : BitVec 32 := Scalar.addi v2 c6_i32
  let c8_i32_85 : BitVec 32 := 8#32
  let v176 : BitVec 32 := Scalar.remsi v175 c8_i32_85
  let c1_i32_93 : BitVec 32 := 1#32
  let v193 : BitVec 32 := Scalar.muli v176 c1_i32_93
  let v194 : BitVec 32 := Scalar.addi c0_i32_94 v193
  v194.toNat
def k0_dev7 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v203 : BitVec 32 := Scalar.addi v2 c7_i32
  let c8_i32_99 : BitVec 32 := 8#32
  let v204 : BitVec 32 := Scalar.remsi v203 c8_i32_99
  let c1_i32_107 : BitVec 32 := 1#32
  let v221 : BitVec 32 := Scalar.muli v204 c1_i32_107
  let v222 : BitVec 32 := Scalar.addi c0_i32_108 v221
  v222.toNat
def k0_off2 (d0 : Dev nD) (c1_i32_638 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v635 : BitVec 32 := Scalar.addi v2 c1_i32_638
  let c8_i32_639 : BitVec 32 := 8#32
  let v636 : BitVec 32 := Scalar.remsi v635 c8_i32_639
  let c0_i32_646 : BitVec 32 := 0#32
  let c0_i32_647 : BitVec 32 := 0#32
  ![v636.toNat, 0, 0]
def k0_dev8 (d0 : Dev nD) : Nat :=
  let c0_i32_643 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_638 : BitVec 32 := 1#32
  let v635 : BitVec 32 := Scalar.addi v2 c1_i32_638
  let c8_i32_639 : BitVec 32 := 8#32
  let v636 : BitVec 32 := Scalar.remsi v635 c8_i32_639
  let c1_i32_642 : BitVec 32 := 1#32
  let v637 : BitVec 32 := Scalar.muli v636 c1_i32_642
  let v638 : BitVec 32 := Scalar.addi c0_i32_643 v637
  v638.toNat
def k0_dev9 (d0 : Dev nD) : Nat :=
  let c0_i32_653 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_648 : BitVec 32 := 2#32
  let v647 : BitVec 32 := Scalar.addi v2 c2_i32_648
  let c8_i32_649 : BitVec 32 := 8#32
  let v648 : BitVec 32 := Scalar.remsi v647 c8_i32_649
  let c1_i32_652 : BitVec 32 := 1#32
  let v649 : BitVec 32 := Scalar.muli v648 c1_i32_652
  let v650 : BitVec 32 := Scalar.addi c0_i32_653 v649
  v650.toNat
def k0_dev10 (d0 : Dev nD) : Nat :=
  let c0_i32_663 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_658 : BitVec 32 := 3#32
  let v659 : BitVec 32 := Scalar.addi v2 c3_i32_658
  let c8_i32_659 : BitVec 32 := 8#32
  let v660 : BitVec 32 := Scalar.remsi v659 c8_i32_659
  let c1_i32_662 : BitVec 32 := 1#32
  let v661 : BitVec 32 := Scalar.muli v660 c1_i32_662
  let v662 : BitVec 32 := Scalar.addi c0_i32_663 v661
  v662.toNat
def k0_dev11 (d0 : Dev nD) : Nat :=
  let c0_i32_673 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_668 : BitVec 32 := 4#32
  let v671 : BitVec 32 := Scalar.addi v2 c4_i32_668
  let c8_i32_669 : BitVec 32 := 8#32
  let v672 : BitVec 32 := Scalar.remsi v671 c8_i32_669
  let c1_i32_672 : BitVec 32 := 1#32
  let v673 : BitVec 32 := Scalar.muli v672 c1_i32_672
  let v674 : BitVec 32 := Scalar.addi c0_i32_673 v673
  v674.toNat
def k0_dev12 (d0 : Dev nD) : Nat :=
  let c0_i32_683 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_678 : BitVec 32 := 5#32
  let v683 : BitVec 32 := Scalar.addi v2 c5_i32_678
  let c8_i32_679 : BitVec 32 := 8#32
  let v684 : BitVec 32 := Scalar.remsi v683 c8_i32_679
  let c1_i32_682 : BitVec 32 := 1#32
  let v685 : BitVec 32 := Scalar.muli v684 c1_i32_682
  let v686 : BitVec 32 := Scalar.addi c0_i32_683 v685
  v686.toNat
def k0_dev13 (d0 : Dev nD) : Nat :=
  let c0_i32_693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_688 : BitVec 32 := 6#32
  let v695 : BitVec 32 := Scalar.addi v2 c6_i32_688
  let c8_i32_689 : BitVec 32 := 8#32
  let v696 : BitVec 32 := Scalar.remsi v695 c8_i32_689
  let c1_i32_692 : BitVec 32 := 1#32
  let v697 : BitVec 32 := Scalar.muli v696 c1_i32_692
  let v698 : BitVec 32 := Scalar.addi c0_i32_693 v697
  v698.toNat
def k0_dev14 (d0 : Dev nD) : Nat :=
  let c0_i32_703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_698 : BitVec 32 := 7#32
  let v707 : BitVec 32 := Scalar.addi v2 c7_i32_698
  let c8_i32_699 : BitVec 32 := 8#32
  let v708 : BitVec 32 := Scalar.remsi v707 c8_i32_699
  let c1_i32_702 : BitVec 32 := 1#32
  let v709 : BitVec 32 := Scalar.muli v708 c1_i32_702
  let v710 : BitVec 32 := Scalar.addi c0_i32_703 v709
  v710.toNat
def k0_off3 (d0 : Dev nD) (c0_i32_715 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v726 : BitVec 32 := Scalar.subi v2 c0_i32_715
  let c8_i32_716 : BitVec 32 := 8#32
  let v727 : BitVec 32 := Scalar.addi v726 c8_i32_716
  let c8_i32_717 : BitVec 32 := 8#32
  let v728 : BitVec 32 := Scalar.remsi v727 c8_i32_717
  let c0_i32_722 : BitVec 32 := 0#32
  let c0_i32_723 : BitVec 32 := 0#32
  ![v728.toNat, 0, 0]
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16384x1024 : Shape := ⟨2, ![16384, 1024]⟩
abbrev S16384x1 : Shape := ⟨2, ![16384, 1]⟩
abbrev S64x1024x1024 : Shape := ⟨3, ![64, 1024, 1024]⟩
abbrev S_ : Shape := ⟨0, ![]⟩
abbrev S16384 : Shape := ⟨1, ![16384]⟩
abbrev S16384x1024x1024 : Shape := ⟨3, ![16384, 1024, 1024]⟩

abbrev nBuf : Space → Nat
  | .hbm => 51
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1, .i32⟩
  | .hbm, ⟨2, _⟩ => ⟨S16384x1, .i32⟩
  | .hbm, ⟨3, _⟩ => ⟨S16384x1, .f32⟩
  | .hbm, ⟨4, _⟩ => ⟨S16384x1, .f32⟩
  | .hbm, ⟨5, _⟩ => ⟨S64x1024x1024, .bf16⟩
  | .hbm, ⟨6, _⟩ => ⟨S_, .i32⟩
  | .hbm, ⟨7, _⟩ => ⟨S16384x1, .i32⟩
  | .hbm, ⟨8, _⟩ => ⟨S16384x1, .i1⟩
  | .hbm, ⟨9, _⟩ => ⟨S_, .i32⟩
  | .hbm, ⟨10, _⟩ => ⟨S16384x1, .i32⟩
  | .hbm, ⟨11, _⟩ => ⟨S16384x1, .i1⟩
  | .hbm, ⟨12, _⟩ => ⟨S16384x1, .i1⟩
  | .hbm, ⟨13, _⟩ => ⟨S_, .i32⟩
  | .hbm, ⟨14, _⟩ => ⟨S16384x1, .i32⟩
  | .hbm, ⟨15, _⟩ => ⟨S16384x1, .i32⟩
  | .hbm, ⟨16, _⟩ => ⟨S16384, .i32⟩
  | .hbm, ⟨17, _⟩ => ⟨S16384x1, .i32⟩
  | .hbm, ⟨18, _⟩ => ⟨S16384x1024x1024, .bf16⟩
  | .hbm, ⟨19, _⟩ => ⟨S16384x1024x1024, .f32⟩
  | .hbm, ⟨20, _⟩ => ⟨S16384x1024, .f32⟩
  | .hbm, ⟨21, _⟩ => ⟨S_, .f32⟩
  | .hbm, ⟨22, _⟩ => ⟨S_, .f32⟩
  | .hbm, ⟨23, _⟩ => ⟨S16384x1024, .i1⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S_, .i32⟩
  | .hbm, ⟨29, _⟩ => ⟨S16384x1, .i32⟩
  | .hbm, ⟨30, _⟩ => ⟨S16384x1, .i1⟩
  | .hbm, ⟨31, _⟩ => ⟨S_, .i32⟩
  | .hbm, ⟨32, _⟩ => ⟨S16384x1, .i32⟩
  | .hbm, ⟨33, _⟩ => ⟨S16384x1, .i1⟩
  | .hbm, ⟨34, _⟩ => ⟨S16384x1, .i1⟩
  | .hbm, ⟨35, _⟩ => ⟨S_, .i32⟩
  | .hbm, ⟨36, _⟩ => ⟨S16384x1, .i32⟩
  | .hbm, ⟨37, _⟩ => ⟨S16384x1, .i32⟩
  | .hbm, ⟨38, _⟩ => ⟨S16384, .i32⟩
  | .hbm, ⟨39, _⟩ => ⟨S16384x1, .i32⟩
  | .hbm, ⟨40, _⟩ => ⟨S16384x1024x1024, .bf16⟩
  | .hbm, ⟨41, _⟩ => ⟨S16384x1024x1024, .f32⟩
  | .hbm, ⟨42, _⟩ => ⟨S16384x1024, .f32⟩
  | .hbm, ⟨43, _⟩ => ⟨S_, .f32⟩
  | .hbm, ⟨44, _⟩ => ⟨S_, .f32⟩
  | .hbm, ⟨45, _⟩ => ⟨S16384x1024, .i1⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_call2_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_5 : Ref sig .tc := ⟨.hbm, 43, rfl⟩
abbrev main_call3_v0 : Ref sig .tc := ⟨.hbm, 44, rfl⟩
abbrev main_call3_v1 : Ref sig .tc := ⟨.hbm, 45, rfl⟩
abbrev main_call3_v2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩

abbrev nD : Nat := 1
abbrev τ : Topo := Topo.v7x

variable {F : FTy → Type} [FloatOps F]
-- ==== Proof.Deal.lean ====
/-
  The launch of a kernel whose devices write rows of each other's HBM buffers without telling one another first: the
  points-tos of those buffers have to be dealt across the devices BEFORE any device's program starts. The pipeline
  library's launch of owing devices hands the buffers that no window stages to each device separately; here they go,
  of all devices at once and beside the kernel's own semaphores, into the one global step.
-/
module

public import proofs.«01_k».proof.Defs
public import proofs.«01_k».proof.Proof.Gen.KernelIdeal.Frame
public import proofs.«01_k».proof.Proof.Gen.KernelIdeal.Skeleton
public import Idealize.ShloMosaic.Lib.Pipeline.Launch
public import Idealize.ShloMosaic.Lib.Quiescent
public import Idealize.ShloMosaic.Lib.Tactic

@[expose] public section

noncomputable section

namespace Cert.Proof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

/-- The proof's resources: the pipeline's rounds, the exchange's rounds, and the counters of the local copies. -/
abbrev RR : Type := URounds (GSem nD τ sig) Unit
abbrev UU : Type := (RR × RR) × Counters

local notation "𝕄" => MT nD τ sig Unit (Elt F) ℕ UU ℕ

/-- The three components inside the machine's algebra. -/
def EP : Emb RR 𝕄 := ((Emb.inl : Emb RR (RR × RR)).trans (Emb.inl : Emb (RR × RR) UU)).trans
  (uEmb (nD := nD) (sig := sig) (Ix := Unit) (Val := Elt F) (Name := ℕ) (U := UU) (Lvl := ℕ)).toEmb
def ER : Emb RR 𝕄 := ((Emb.inr : Emb RR (RR × RR)).trans (Emb.inl : Emb (RR × RR) UU)).trans
  (uEmb (nD := nD) (sig := sig) (Ix := Unit) (Val := Elt F) (Name := ℕ) (U := UU) (Lvl := ℕ)).toEmb

instance EP_lands : (EP : Emb RR 𝕄).LandsIn (upEmb : UEmb _ 𝕄) := by unfold EP; infer_instance
instance ER_lands : (ER : Emb RR 𝕄).LandsIn (upEmb : UEmb _ 𝕄) := by unfold ER; infer_instance

abbrev EC : UEmb Counters 𝕄 := countersEmb

/-- No variants of the kernel's own. -/
abbrev 𝒱₀ : Variants := Variants.none

abbrev pc : Fin 1 → Pipeline.PCfg sig Λ₀ (Elt F) := fun p => (cfgs p).toPCfg
abbrev pa : Dev nD → (p : Fin 1) → (pc (F := F) p).Adm := fun _ p => (cfgs p).toPCfg_adm

/-- The remote copies' semaphores: four kinds (dispatch sent, dispatch received, return sent, return received) of seven. -/
abbrev semR : Fin 4 × Fin 7 → SemLoc sig := fun i =>
  .dma ⟨14 + 7 * i.1.val + i.2.val, by have := i.1.isLt; have := i.2.isLt; show 14 + 7 * i.1.val + i.2.val < 42; omega⟩
/-- The local copies' semaphores. -/
abbrev semL : Fin 8 → SemLoc sig := fun k => .dma ⟨6 + k.val, by have := k.isLt; show 6 + k.val < 42; omega⟩
/-- All scratch semaphores of the kernel. -/
abbrev semA : (Fin 4 × Fin 7) ⊕ Fin 8 → SemLoc sig := Sum.elim semR semL

set_option maxRecDepth 8000 in
/-- The kernel's semaphores are its own, all of them. -/
theorem ownA : Pipeline.OwnSemFacts cfg0.spec semA := by decide
set_option maxRecDepth 8000 in
/-- The exchange semaphores are the kernel's own. -/
theorem ownR : Pipeline.OwnSemFacts cfg0.spec semR := by decide

/-- The buffers no window stages, of device `c`, at their launch contents. -/
abbrev rest (m : (ℓ : Loc nD τ sig) → Buf (Elt F) ℓ) (c : Dev nD) : sProp 𝕄 :=
  Pipeline.unscopedRest cfg0.spec c (fun b => m ((c : Thread nD τ).loc b))

/-- The levels of every TensorCore cell, assigned at once from the launch's ungiven ones. -/
theorem levels_given (L : GSem nD τ sig → Finset Unit) (lv : GSem nD τ sig → Unit → ℕ) (hL : ∀ g : GSem nD τ sig, g.1.2 ≠ .tc → L g = ∅) :
    (bigSep Finset.univ fun c : Dev nD => (levels0 c : sProp 𝕄)) ⊢ (|==> levAts L lv : sProp 𝕄) := by
  classical
  have hempty : ∀ d : Dev nD, ∀ p ∈ (Finset.univ.erase Proc.tc : Finset (Proc τ)), (coreLevAts ((d, p) : Thread nD τ) L lv : sProp 𝕄) = BI.emp := fun d p hp => by
    unfold coreLevAts
    rw [bigSep_congr (Ψ := fun _ : SemLoc sig => (BI.emp : sProp 𝕄)) fun sm _ => by
      rw [hL (((d, p) : Thread nD τ), sm) (Finset.ne_of_mem_erase hp), BI.bigSep_empty], BI.bigSep_emp_const]
  have hrest : (bigSep Finset.univ fun d : Dev nD => bigSep (Finset.univ.erase Proc.tc) fun p => (coreLevAts ((d, p) : Thread nD τ) L lv : sProp 𝕄)) = BI.emp := by
    rw [bigSep_congr (Ψ := fun _ : Dev nD => (BI.emp : sProp 𝕄)) fun d _ => (bigSep_congr (hempty d)).trans (BI.bigSep_emp_const _),
      BI.bigSep_emp_const]
  have hgiven : (bigSep Finset.univ fun c : Dev nD =>
        iprop((bigSep Finset.univ fun sm : SemLoc sig => levels ((c : Thread nD τ), sm) (L ((c : Thread nD τ), sm))) ∗ coreLevAts (c : Thread nD τ) L lv) : sProp 𝕄)
      ⊢ levAts L lv := by
    rw [show (levAts L lv : sProp 𝕄) = bigSep Finset.univ fun c : Thread nD τ => coreLevAts c L lv
        from bigSep_univ_prod fun g : GSem nD τ sig => bigSep (L g) fun ι => levAt g ι (lv g ι),
      bigSep_threads (fun c : Thread nD τ => coreLevAts c L lv), hrest, bigSep_sep']
    iintro ⟨-, H⟩
    isplitl [H]; · iexact H
    iempintro
  exact (bigSep_mono fun (c : Dev nD) _ => lev_assign_cells (c : Thread nD τ) L lv).trans ((BI.bigSep_bupd _ _).trans (BI.bupd_mono hgiven))

section Launch

variable (m : (ℓ : Loc nD τ sig) → Buf (Elt F) ℓ) (ρ : Dev nD → PrngReg)
  (dat : (p : Fin 1) → (c : Dev nD) → Dat τ (Elt F) Unit ℕ UU ℕ (cfgs p) c)

/-- The same data as the relational launch reads it. -/
abbrev rdat : (p : Fin 1) → (c : Dev nD) → RDat τ (Elt F) Unit ℕ UU ℕ (Pipeline.pinD (pc (F := F)) pa c p) c := fun p c => (dat p c).toR

/-- THE LAUNCH: a run of every device's kernel from a launch in which all devices' scratch counters and all devices'
    unstaged buffers are dealt at once (`hdeal`). -/
theorem run_dealt
    (hbody : ∀ c, BodyObligationLoose (dat 0 c) defs₀ 𝒱₀ () Set.univ)
    (hshare : ∀ c w, (dat 0 c).share w = fullShare)
    (O : Dev nD → CellTallies nD τ sig Unit) (hO0 : ∀ c, (dat 0 c).owed 0 = O c) (hO1 : ∀ c, (dat 0 c).owed (Fin.last _) = 0)
    (L : GSem nD τ sig → Finset Unit) (lv : GSem nD τ sig → Unit → ℕ) (hL : ∀ g : GSem nD τ sig, g.1.2 ≠ .tc → L g = ∅)
    (hwaits : ∀ c, (levAts L lv : sProp 𝕄) ⊢ Pipeline.PerCore.RDat.cellsWaits (Pipeline.pinD (pc (F := F)) pa) (rdat dat) () 0 c)
    (G G' : Dev nD → sProp 𝕄) (u₀ : UU)
    (hu₀ : (ownU u₀ : sProp 𝕄)
      ⊢ |={Set.univ}=> iprop(BI.own (EP (initOf (Pipeline.PerCore.cells (Pipeline.pinD (pc (F := F)) pa) cellOf_inj)
          (Pipeline.PerCore.launchToks (Pipeline.pinD (pc (F := F)) pa) cellOf_inj))) ∗ bigSep Finset.univ G))
    (hdeal : (bigSep Finset.univ fun c => iprop((Pipeline.ownSems0 semA c ∗ rest m c) ∗ G c) : sProp 𝕄) ⊢ |={Set.univ}=> bigSep Finset.univ G')
    (hA : ∀ c w, (dat 0 c).A w = m ((cfg0.spec w).arr.view.loc (c : Thread nD τ)))
    (X Y : Dev nD → sProp 𝕄)
    (hX : ∀ c, iprop(levAts L lv ∗ Pipeline.launchCred O c ∗ G' c) ⊢ X c)
    (hin : ∀ c, iprop(X c ∗ Pipeline.scopedRest cfg0.spec c) ⊢ (dat 0 c).Φ 0)
    (hout : ∀ c, (dat 0 c).Φ (Fin.last cfg0.N) ⊢ iprop(Y c ∗ Pipeline.ownSems0 semA c ∗ Pipeline.scopedRest cfg0.spec c))
    (QY : Dev nD → MemSt nD τ sig (Elt F) → Prop)
    (hY : ∀ c (s' : Phys nD τ sig (Elt F)), iprop(Y c ∗ SI s') ⊢ iprop(⌜QY c s'.mem⌝ ∗ SI s')) :
    θ_run defs (onTc (τ := τ) (main (F := F))) ⟨m, fun _ => 0, ρ⟩ (fun r =>
      (∀ c : Dev nD, (∀ w, r.2.mem ((cfg0.spec w).arr.view.loc (c : Thread nD τ)) = (dat 0 c).arrAt w cfg0.N) ∧ QY c r.2)
      ∧ r.2.sem = fun _ => 0) := by
  classical
  have hss (c : Dev nD) := Pipeline.PerCore.scopedSems0_split (Pipeline.pinD (pc (F := F)) pa) cellOf_inj 0 (fun _ => winFacts0.to₀)
    (osem := semA) (fun _ => ownA) (Ix := Unit) (Val := Elt F) (Name := ℕ) (U := UU) (Lvl := ℕ) c
  have hsb (c : Dev nD) := Pipeline.PerCore.scopedBufs_split (Pipeline.pinD (pc (F := F)) pa) 0 c winFacts0.to₀.stage_scoped
    winFacts0.to₀.stage_inj stage_whole0 (nD := nD) (τ := τ) (Ix := Unit) (Val := Elt F) (Name := ℕ) (U := UU) (Lvl := ℕ)
  have hub (c : Dev nD) := Pipeline.PerCore.unscopedBufs_split (Pipeline.pinD (pc (F := F)) pa) 0 c winFacts0.to₀.arr_unscoped
    winFacts0.arr_inj (Ix := Unit) (Name := ℕ) (U := UU) (Lvl := ℕ) (fun b => m ((c : Thread nD τ).loc b))
  have harr (c : Dev nD) : (bigSep Finset.univ fun w => (((c : Thread nD τ).loc (Pipeline.arrRef cfg0.spec w)) ↦{fullShare} m ((c : Thread nD τ).loc (Pipeline.arrRef cfg0.spec w)) : sProp 𝕄))
      = (rdat dat 0 c).arrays (rdat dat 0 c).A := by
    rw [Pipeline.PerCore.RDat.arrays_eq (pc (F := F)) pa (rdat dat) 0 c arr_whole0 (hshare c)]
    exact bigSep_congr fun w _ => by rw [show (rdat dat 0 c).A w = _ from hA c w]
  have hin' (c : Dev nD) : iprop(X c ∗ Pipeline.prefHeld (pc (F := F) 0).pre c (fun _ => fullShare.right) (pa (F := F) c 0).1 ∗ Pipeline.scopedRest cfg0.spec c)
      ⊢ (rdat dat 0 c).Φ 0 := by
    iintro ⟨H1, -, H2⟩
    have h : iprop(X c ∗ Pipeline.scopedRest cfg0.spec c) ⊢ (rdat dat 0 c).Φ 0 := hin c
    iapply h
    isplitl [H1] <;> iassumption
  let inner (c : Dev nD) : sProp 𝕄 := iprop(scopedBufs (c : Thread nD τ) ∗ Pipeline.PerCore.cellsSems0 (Pipeline.pinD (pc (F := F)) pa) 0 c
    ∗ Pipeline.PerCore.idleSems0 (Pipeline.pinD (pc (F := F)) pa) cellOf_inj 0 (osem := semA) (fun _ => ownA) c)
  let pre (c : Dev nD) : sProp 𝕄 := iprop(inner c ∗ (rdat dat 0 c).arrays (rdat dat 0 c).A
    ∗ owes (c : Thread nD τ) (O c) ∅ ∗ levAts L lv ∗ Pipeline.launchCred O c
    ∗ Pipeline.PerCore.cellsGhost (Pipeline.pinD (pc (F := F)) pa) EP 0 c ∗ Pipeline.PerCore.toksInit (Pipeline.pinD (pc (F := F)) pa) EP 0 c ∗ G' c)
  let fin (c : Dev nD) : sProp 𝕄 := iprop((rdat dat 0 c).arraysAt cfg0.N ∗ Y c ∗ scopedSems0 (c : Thread nD τ))
  refine (θ_run defs _ _).mono (Q := fun r => (∀ c : Dev nD, ((∀ w, (rdat dat 0 c).ArrAt w cfg0.N (r.2.mem ((cfg0.spec w).arr.view.loc (c : Thread nD τ)))) ∧ QY c r.2)
      ∧ ∀ sm : SemLoc sig, sm.isScoped .tc = true → r.2.sem ((c : Thread nD τ), sm) = 0)
      ∧ ∀ g' : GSem nD τ sig, g'.1.2 ≠ .tc → r.2.sem g' = 0)
    (fun r hr => ⟨fun c => ⟨fun w => ((dat 0 c).toR_arrAt_iff w _ _).mp ((hr.1 c).1.1 w), (hr.1 c).1.2⟩,
      sem_eq_zero_of_scoped (by decide) (sems_of_reads (fun c => (hr.1 c).2) hr.2)⟩)
    (adequate_tpu defs _ _ _ (reflect_intro_fupd_tc_sems (X := Unit) (Variants.lift 𝒱₀) (Pipeline.owing O) 0 (noBookings fun _ => le_rfl)
      (Pipeline.owing_of_ne O) u₀ (fun _ => pre) (fun _ => fin) (fun _ => iprop(emp)) Set.univ ?_ (fun _ c => ?_) fun _ => ?_))
  · have hone (c : Dev nD) : (coreInit (Ix := Unit) (Name := ℕ) (U := UU) (Lvl := ℕ) (Pipeline.owing O) 0 (⟨m, fun _ => 0, ρ⟩ : MemSt nD τ sig (Elt F)) (c : Thread nD τ) : sProp 𝕄)
        ⊢ iprop(inner c ∗ (Pipeline.ownSems0 semA c ∗ rest m c) ∗ (rdat dat 0 c).arrays (rdat dat 0 c).A ∗ owes (c : Thread nD τ) (O c) ∅
          ∗ levels0 c ∗ Pipeline.launchCred O c) :=
      (Pipeline.coreInit_boundary_owing O m ρ c).trans (by
        unfold boundary
        rw [hss c, hub c, ← harr c]
        iintro ⟨⟨Hsc, ⟨⟨Hcells, Hos⟩, Hidle⟩, -⟩, ⟨Harr, Hrest⟩, -, HL, Hlv, -, Hcr⟩
        isplitl [Hsc Hcells Hidle]
        · isplitl [Hsc]; · iexact Hsc
          isplitl [Hcells] <;> iassumption
        isplitl [Hos Hrest]; · isplitl [Hos] <;> iassumption
        isplitl [Harr]; · iexact Harr
        isplitl [HL]; · iexact HL
        isplitl [Hlv]; · iexact Hlv
        iexact Hcr)
    have hall : (bigSep Finset.univ fun c : Dev nD => coreInit (Ix := Unit) (Name := ℕ) (U := UU) (Lvl := ℕ) (Pipeline.owing O) 0 (⟨m, fun _ => 0, ρ⟩ : MemSt nD τ sig (Elt F)) (c : Thread nD τ))
        ⊢ iprop(bigSep Finset.univ inner ∗ (bigSep Finset.univ fun c => iprop(Pipeline.ownSems0 semA c ∗ rest m c))
          ∗ (bigSep Finset.univ fun c => (rdat dat 0 c).arrays (rdat dat 0 c).A) ∗ (bigSep Finset.univ fun c : Dev nD => owes (c : Thread nD τ) (O c) ∅)
          ∗ (bigSep Finset.univ fun c : Dev nD => levels0 c) ∗ bigSep Finset.univ (Pipeline.launchCred O) : sProp 𝕄) := by
      refine (bigSep_mono fun c _ => hone c).trans ?_
      simp only [bigSep_sep']
      exact BI.Entails.refl _
    have hpick (Φ : Fin 1 → Dev nD → sProp 𝕄) :
        (bigSep Finset.univ fun c : Dev nD => bigSep Finset.univ fun p => Φ p c) ⊢ bigSep Finset.univ fun c : Dev nD => Φ 0 c :=
      bigSep_mono fun c _ => BI.bigSep_elim (Finset.mem_univ 0)
    iintro ⟨Hc, Hu⟩
    ihave H := hall $$ Hc
    icases H with ⟨Hin, Hor, Harr, HL, Hlv, Hcr⟩
    imod (levels_given L lv hL) $$ Hlv with Hla
    imod hu₀ $$ Hu with ⟨HP, HG⟩
    imod (Pipeline.PerCore.fund_ghost (Pipeline.pinD (pc (F := F)) pa) EP cellOf_inj) $$ HP with ⟨Hg, Ht⟩
    imod hdeal $$ [Hor HG] with HG'
    · iapply (Entails.of_eq (bigSep_sep' Finset.univ (fun c => iprop(Pipeline.ownSems0 semA c ∗ rest m c)) G).symm); isplitl [Hor]; · iexact Hor
      iexact HG
    imodintro
    iexists ()
    isplitl
    · simp only [pre, bigSep_sep']
      isplitl [Hin]; · iexact Hin
      isplitl [Harr]; · iexact Harr
      isplitl [HL]; · iexact HL
      isplitl [Hla]; · iapply (BI.bigSep_intro_persistent (S := Finset.univ) fun (c : Dev nD) _ => (BI.Entails.refl (levAts L lv : sProp 𝕄))); iexact Hla
      isplitl [Hcr]; · iexact Hcr
      isplitl [Hg]; · iapply (hpick fun p c => Pipeline.PerCore.cellsGhost (Pipeline.pinD (pc (F := F)) pa) EP p c); iexact Hg
      isplitl [Ht]; · iapply (hpick fun p c => Pipeline.PerCore.toksInit (Pipeline.pinD (pc (F := F)) pa) EP p c); iexact Ht
      iexact HG'
    · iempintro
  · have hout' : iprop((rdat dat 0 c).Φ (Fin.last cfg0.N) ∗ Pipeline.PerCore.cellsSems0 (Pipeline.pinD (pc (F := F)) pa) 0 c ∗ Dat.staging cfg0 c
          ∗ Pipeline.PerCore.idleSems0 (Pipeline.pinD (pc (F := F)) pa) cellOf_inj 0 (osem := semA) (fun _ => ownA) c)
        ⊢ iprop(Y c ∗ scopedSems0 (c : Thread nD τ) ∗ scopedBufs (c : Thread nD τ)) := by
      rw [hss c, hsb c]
      iintro ⟨HΦ, Hcells, Hst, Hidle⟩
      have h : (rdat dat 0 c).Φ (Fin.last cfg0.N) ⊢ iprop(Y c ∗ Pipeline.ownSems0 semA c ∗ Pipeline.scopedRest cfg0.spec c) := hout c
      ihave H := h $$ HΦ
      icases H with ⟨HY, Hos, Hrest⟩
      isplitl [HY]; · iexact HY
      isplitl [Hcells Hos Hidle]
      · isplitl [Hcells Hos]; · isplitl [Hcells] <;> iassumption
        iexact Hidle
      isplitl [Hst] <;> iassumption
    have hpost : Pipeline.PerCore.RDat.EntryPost (Pipeline.pinD (pc (F := F)) pa) (rdat dat) () 0 c
        ⊢ iprop((rdat dat 0 c).arraysAt cfg0.N ∗ ∃ W, owes (c : Thread nD τ) (0 : CellTallies nD τ sig Unit) W) := by
      unfold Pipeline.PerCore.RDat.EntryPost RDat.owesAt Pipeline.owesWithin
      rw [show (rdat dat 0 c).owed (Fin.last _) = 0 from hO1 c]
      iintro ⟨Ha, ⟨%W, -, HW⟩⟩
      isplitl [Ha]; · iexact Ha
      iexists W; iexact HW
    simp only [pre, inner]
    rw [show main (F := F) c = .op (.customCall (Pipeline.entry 0) ()) fun _ => .ret ⟨⟩ from rfl]
    iintro ⟨⟨Hsc, Hcells, Hidle⟩, Harr, HL, #Hla, Hcr, Hg, Ht, HG⟩
    ihave Hw := (hwaits c) $$ Hla
    ihave HX := (hX c) $$ [Hcr HG]
    · isplitr; · iexact Hla
      isplitl [Hcr] <;> iassumption
    iapply (fupd_wp frame (wpE defs (Variants.lift 𝒱₀) (c : Thread nD τ) none) Set.univ _ _)
    imod (Pipeline.PerCore.RDat.cellsInit_alloc (Pipeline.pinD (pc (F := F)) pa) (rdat dat) EP cellOf_inj 0 c) $$ [Hcells Hg] with ⟨%κ, -, Hinit⟩
    · isplitl [Hcells] <;> iassumption
    imodintro
    have hreg := (Pipeline.PerCore.RDat.wp_customCall_entry_frame (pc (F := F)) pa (rdat dat) () EP κ cellOf_inj 0 defs₀ 𝒱₀ (fun _ => fullShare.right) c Set.univ
        (fun _ _ => Set.mem_univ _) ((hbody c).toR) block_pos0 none (fun u h => nomatch h) (X := X c) (Y := Y c) (R := Pipeline.scopedRest cfg0.spec c)
        (I := Pipeline.PerCore.idleSems0 (Pipeline.pinD (pc (F := F)) pa) cellOf_inj 0 (osem := semA) (fun _ => ownA) c)
        (Entails.of_eq (hsb c)) (hin' c) hout'
        (k := fun _ => Prog.ret PUnit.unit) (Q := fun _ => post (liftTc fin BI.emp) (c : Thread nD τ)))
    iapply hreg $$ [Harr HL Hinit Ht HX Hidle Hsc Hw]
    · isplitl [Harr HL Hinit Ht Hw]
      · unfold Pipeline.PerCore.RDat.EntryPre RDat.owesAt Pipeline.owesWithin
        rw [show (rdat dat 0 c).owed 0 = O c from hO0 c]
        isplitl [Harr]; · iexact Harr
        isplitl [HL]
        · iexists ∅; isplitr; · ipureintro; rw [Finset.coe_empty]; exact Set.empty_subset _
          iexact HL
        isplitl [Hw]; · iexact Hw
        isplitl [Hinit] <;> iassumption
      isplitr
      · unfold Pipeline.prefHeld
        iapply (Entails.of_eq (BI.bigSep_empty (M := 𝕄)).symm); iempintro
      isplitl [HX]; · iexact HX
      isplitl [Hidle]; · iexact Hidle
      iexact Hsc
    iintro ⟨Hpost, HY, Hss2, -⟩
    rw [wp_ret]; imodintro
    unfold post; simp only [liftTc_tc, fin]
    ihave Hp := hpost $$ Hpost
    icases Hp with ⟨Ha, HW⟩
    isplitr [HW]
    · isplitl [Ha]; · iexact Ha
      isplitl [HY] <;> iassumption
    · iexact HW
  · have hread (c : Dev nD) (s' : Phys nD τ sig (Elt F)) : iprop(fin c ∗ SI s') ⊢ |={Set.univ}=>
        iprop(⌜((∀ w, (rdat dat 0 c).ArrAt w cfg0.N (s'.mem.mem ((cfg0.spec w).arr.view.loc (c : Thread nD τ)))) ∧ QY c s'.mem)
          ∧ ∀ sm : SemLoc sig, sm.isScoped .tc = true → s'.mem.sem ((c : Thread nD τ), sm) = 0⌝ ∗ SI s') := by
      simp only [fin]
      iintro ⟨⟨Ha, HY, Hss⟩, HSI⟩
      ihave %hz := (tcScoped_read_pers c s') $$ [Hss HSI]
      · isplitl [Hss] <;> iassumption
      ihave Hr := (Pipeline.PerCore.RDat.arraysAt_read (pc (F := F)) pa (rdat dat) 0 c arr_whole0 cfg0.N s') $$ [Ha HSI]
      · isplitl [Ha] <;> iassumption
      icases Hr with ⟨%ha, HSI⟩
      ihave Hq := (hY c s') $$ [HY HSI]
      · isplitl [HY] <;> iassumption
      icases Hq with ⟨%hy, HSI⟩
      imodintro
      isplitr
      · ipureintro; exact ⟨⟨ha, hy⟩, hz⟩
      · iexact HSI
    iintro ⟨H, -, Hsc⟩ %s' HSI
    ihave %hsc := (scSems_read_zero m ρ s') $$ [Hsc HSI]
    · isplitl [Hsc] <;> iassumption
    imod (posts_fupd Finset.univ hread s') $$ [H HSI] with %h
    · isplitl [H] <;> iassumption
    imodintro
    ipureintro
    exact ⟨fun c => h c (Finset.mem_univ c), hsc⟩

end Launch

end Cert.Proof
end
-- ==== Proof.Text.lean ====
/-
  The kernel's body as a program over symbolic indices: each of its repeated stretches — a dispatch, an expert's
  copies, an expert's product, a return, a combination — written once, and the printed body shown to be their sequence.
-/
module

public import proofs.«01_k».proof.Proof.Deal
public import proofs.«01_k».proof.Proof.Gen.KernelIdeal.Points
public import Idealize.ShloMosaic.Lib.Pipeline.Regions

@[expose] public section

noncomputable section

namespace Cert.Proof

open Cert.KernelIdeal Cert.KernelIdeal.Gen
open Idealize.ShloMosaic Idealize.ShloMosaic.TcCoe
open Idealize.SL Idealize.SL.Sem

variable {F : FTy → Type} [FloatOps F]

abbrev Pr (F : FTy → Type) : Type 1 := Prog (TpuEff nD τ sig (Elt F) Λ₀ .tc) PUnit

/-! ## The buffers -/

abbrev bX : Memref sig .tc .vmem S2048x1024 .f32 := win0_0.stage (cfg0.slots t0_0 0)
abbrev bS0 : Memref sig .tc .vmem S2048x1 .i32 := win0_1.stage (cfg0.slots t0_0 1)
abbrev bS1 : Memref sig .tc .vmem S2048x1 .i32 := win0_2.stage (cfg0.slots t0_0 2)
abbrev bG0 : Memref sig .tc .vmem S2048x1 .f32 := win0_3.stage (cfg0.slots t0_0 3)
abbrev bG1 : Memref sig .tc .vmem S2048x1 .f32 := win0_4.stage (cfg0.slots t0_0 4)
abbrev bOut : Memref sig .tc .vmem S2048x1024 .f32 := win0_5.stage (cfg0.slots t0_0 5)
abbrev bEw : Memref sig .tc .hbm S8x1024x1024 .bf16 := Memref.whole main_arg5
abbrev bXr : Memref sig .tc .hbm S8x1024x1024 .bf16 := Memref.whole main_v1_1
abbrev bYs : Memref sig .tc .hbm S8x1024x1024 .bf16 := Memref.whole main_v1_2
abbrev bYr : Memref sig .tc .hbm S8x1024x1024 .bf16 := Memref.whole main_v1_3
abbrev bXs : Memref sig .tc .vmem S8x1024x1024 .bf16 := Memref.whole cc0_scratch0
abbrev bXa : Memref sig .tc .vmem S2x8x128x1024 .bf16 := Memref.whole cc0_scratch1
abbrev bW : Memref sig .tc .vmem S2x1024x1024 .bf16 := Memref.whole cc0_scratch2
abbrev bYa : Memref sig .tc .vmem S2x8x128x1024 .bf16 := Memref.whole cc0_scratch3
abbrev bY : Memref sig .tc .vmem S1024x1024 .bf16 := Memref.whole cc0_scratch4

/-! ## Rows, columns and halves of them -/

/-- Row `k` lies inside a buffer of eight. -/
theorem inbRow (k : Fin 8) : ∀ a, (![k.val, 0, 0] : Fin 3 → Nat) a + S1x1024x1024.size a ≤ S8x1024x1024.size a := by
  revert k; decide
/-- A row of a buffer of eight is made of whole words. -/
theorem wordsRow (k : Fin 8) : (Rect.unit (s := S8x1024x1024) ![k.val, 0, 0] S1x1024x1024.size (inbRow k)).WholeWords (EltTy.packing .bf16) := by
  revert k; decide
/-- A row of a buffer of eight is made of packed rows. -/
theorem packedRow (k : Fin 8) : (Rect.unit (s := S8x1024x1024) ![k.val, 0, 0] S1x1024x1024.size (inbRow k)).PackedRows (EltTy.packing .bf16) := by
  revert k; decide
/-- Expert `s`'s rows lie inside a buffer of eight. -/
theorem inbCol (s : Fin 8) : ∀ a, (![0, 128 * s.val, 0] : Fin 3 → Nat) a + S8x128x1024.size a ≤ S8x1024x1024.size a := by
  revert s; decide
/-- An expert's rows are whole words. -/
theorem wordsCol (s : Fin 8) : (Rect.unit (s := S8x1024x1024) ![0, 128 * s.val, 0] S8x128x1024.size (inbCol s)).WholeWords (EltTy.packing .bf16) := by
  revert s; decide
/-- Half `b` lies inside the weights' double buffer. -/
theorem inbH3 (b : Fin 2) : ∀ a, (![b.val, 0, 0] : Fin 3 → Nat) a + S1x1024x1024.size a ≤ S2x1024x1024.size a := by
  revert b; decide
/-- A half of the weights' double buffer is whole words. -/
theorem wordsH3 (b : Fin 2) : (Rect.unit (s := S2x1024x1024) ![b.val, 0, 0] S1x1024x1024.size (inbH3 b)).WholeWords (EltTy.packing .bf16) := by
  revert b; decide
/-- Half `b` lies inside a row double buffer. -/
theorem inbH4 (b : Fin 2) : ∀ a, (![b.val, 0, 0, 0] : Fin 4 → Nat) a + S1x8x128x1024.size a ≤ S2x8x128x1024.size a := by
  revert b; decide
/-- A half of a row double buffer is whole words. -/
theorem wordsH4 (b : Fin 2) : (Rect.unit (s := S2x8x128x1024) ![b.val, 0, 0, 0] S1x8x128x1024.size (inbH4 b)).WholeWords (EltTy.packing .bf16) := by
  revert b; decide
/-- A half of a row double buffer is packed rows. -/
theorem packedH4 (b : Fin 2) : (Rect.unit (s := S2x8x128x1024) ![b.val, 0, 0, 0] S1x8x128x1024.size (inbH4 b)).PackedRows (EltTy.packing .bf16) := by
  revert b; decide

/-- One block of eight, at an offset, as a matrix. -/
abbrev slot {sp : Space} (M : Memref sig .tc sp S8x1024x1024 .bf16) (o : Fin 3 → Nat) (h : ∀ a, o a + S1x1024x1024.size a ≤ S8x1024x1024.size a) :
    Memref sig .tc sp S1024x1024 .bf16 :=
  (M.slice (Rect.unit (s := S8x1024x1024) o S1x1024x1024.size h) (fun _ => rfl)).squeeze S1024x1024 squeezes_S1x1024x1024_S1024x1024
/-- Block `k` of a buffer. -/
abbrev row {sp : Space} (M : Memref sig .tc sp S8x1024x1024 .bf16) (k : Fin 8) := slot M ![k.val, 0, 0] (inbRow k)
/-- The device's own block, the block of the device `1+k` further, the block of the device `k` before. -/
abbrev own {sp : Space} (M : Memref sig .tc sp S8x1024x1024 .bf16) (c : Dev nD) := slot M (k0_off1 c) (k0_off1_inb c)
abbrev ahead {sp : Space} (M : Memref sig .tc sp S8x1024x1024 .bf16) (c : Dev nD) (k : Fin 7) :=
  slot M (k0_off2 c (BitVec.ofNat 32 (1 + k.val))) (k0_off2_inb c k)
abbrev back {sp : Space} (M : Memref sig .tc sp S8x1024x1024 .bf16) (c : Dev nD) (k : Fin 8) :=
  slot M (k0_off3 c (BitVec.ofNat 32 k.val)) (k0_off3_inb c k)
/-- Expert `s`'s rows of every block. -/
abbrev col (M : Memref sig .tc .hbm S8x1024x1024 .bf16) (s : Fin 8) : Memref sig .tc .hbm S8x128x1024 .bf16 :=
  M.slice (Rect.unit (s := S8x1024x1024) ![0, 128 * s.val, 0] S8x128x1024.size (inbCol s)) (fun _ => rfl)
abbrev half3 (M : Memref sig .tc .vmem S2x1024x1024 .bf16) (b : Fin 2) : Memref sig .tc .vmem S1024x1024 .bf16 :=
  (M.slice (Rect.unit (s := S2x1024x1024) ![b.val, 0, 0] S1x1024x1024.size (inbH3 b)) (fun _ => rfl)).squeeze S1024x1024 squeezes_S1x1024x1024_S1024x1024
abbrev half4 (M : Memref sig .tc .vmem S2x8x128x1024 .bf16) (b : Fin 2) : Memref sig .tc .vmem S8x128x1024 .bf16 :=
  (M.slice (Rect.unit (s := S2x8x128x1024) ![b.val, 0, 0, 0] S1x8x128x1024.size (inbH4 b)) (fun _ => rfl)).squeeze S8x128x1024 squeezes_S1x8x128x1024_S8x128x1024

/-- The buffer of sent token rows is viewed whole. -/
theorem bXs_whole : bXs.IsWhole := Memref.isWhole_whole _
/-- The buffer of received token rows is viewed whole. -/
theorem bXr_whole : bXr.IsWhole := Memref.isWhole_whole _
/-- The buffer of products to give back is viewed whole. -/
theorem bYs_whole : bYs.IsWhole := Memref.isWhole_whole _
/-- The buffer of products come back is viewed whole. -/
theorem bYr_whole : bYr.IsWhole := Memref.isWhole_whole _
/-- The array of weights is viewed whole. -/
theorem bEw_whole : bEw.IsWhole := Memref.isWhole_whole _
/-- The double buffer of an expert's rows is viewed whole. -/
theorem bXa_whole : bXa.IsWhole := Memref.isWhole_whole _
/-- The double buffer of weights is viewed whole. -/
theorem bW_whole : bW.IsWhole := Memref.isWhole_whole _
/-- The double buffer of products is viewed whole. -/
theorem bYa_whole : bYa.IsWhole := Memref.isWhole_whole _
/-- The block that a combination reads is viewed whole. -/
theorem bY_whole : bY.IsWhole := Memref.isWhole_whole _

/-- A block of a whole buffer, at an offset of whole words, is exact in words. -/
theorem exact_slot {sp : Space} {M : Memref sig .tc sp S8x1024x1024 .bf16} (hM : M.IsWhole) (o : Fin 3 → Nat) (h : ∀ a, o a + S1x1024x1024.size a ≤ S8x1024x1024.size a)
    (hw : (Rect.unit (s := S8x1024x1024) o S1x1024x1024.size h).WholeWords (EltTy.packing .bf16)) : (slot M o h).view.WordExact :=
  (hM.wordExact_slice rfl _ hw).reshape _ _
/-- A row of a whole buffer is exact in words. -/
theorem exact_row {sp : Space} {M : Memref sig .tc sp S8x1024x1024 .bf16} (hM : M.IsWhole) (k : Fin 8) : (row M k).view.WordExact := exact_slot hM _ _ (wordsRow k)
/-- The device's own row is exact in words. -/
theorem exact_own {sp : Space} {M : Memref sig .tc sp S8x1024x1024 .bf16} (hM : M.IsWhole) (c : Dev nD) : (own M c).view.WordExact := exact_slot hM _ _ (k0_off1_wordsbf16 c)
/-- The row of a device further on is exact in words. -/
theorem exact_ahead {sp : Space} {M : Memref sig .tc sp S8x1024x1024 .bf16} (hM : M.IsWhole) (c : Dev nD) (k : Fin 7) : (ahead M c k).view.WordExact := exact_slot hM _ _ (k0_off2_wordsbf16 c k)
/-- The row of a device before is exact in words. -/
theorem exact_back {sp : Space} {M : Memref sig .tc sp S8x1024x1024 .bf16} (hM : M.IsWhole) (c : Dev nD) (k : Fin 8) : (back M c k).view.WordExact := exact_slot hM _ _ (k0_off3_wordsbf16 c k)
/-- An expert's rows are exact in words. -/
theorem exact_col {M : Memref sig .tc .hbm S8x1024x1024 .bf16} (hM : M.IsWhole) (s : Fin 8) : (col M s).view.WordExact := hM.wordExact_slice rfl _ (wordsCol s)
/-- A half of the weights' double buffer is exact in words. -/
theorem exact_half3 {M : Memref sig .tc .vmem S2x1024x1024 .bf16} (hM : M.IsWhole) (b : Fin 2) : (half3 M b).view.WordExact := (hM.wordExact_slice rfl _ (wordsH3 b)).reshape _ _
/-- A half of a row double buffer is exact in words. -/
theorem exact_half4 {M : Memref sig .tc .vmem S2x8x128x1024 .bf16} (hM : M.IsWhole) (b : Fin 2) : (half4 M b).view.WordExact := (hM.wordExact_slice rfl _ (wordsH4 b)).reshape _ _

/-! ## Words, devices, semaphores -/

/-- The device's position as the program computes it. -/
abbrev wd (c : Dev nD) : BitVec 32 := Scalar.remsi (Scalar.divsi (Dev.word c) 1#32) 8#32
/-- The device `1 + k` further, as a word's value. -/
abbrev devN (c : Dev nD) (k : Fin 7) : Nat :=
  (Scalar.addi 0#32 (Scalar.muli (Scalar.remsi (Scalar.addi (wd c) (BitVec.ofNat 32 (1 + k.val))) 8#32) 1#32)).toNat
/-- The device `1 + k` further is one of the eight. -/
theorem devN_lt (c : Dev nD) (k : Fin 7) : devN c k < nD := by revert c k; decide +kernel
abbrev devA (c : Dev nD) (k : Fin 7) : Dev nD := ⟨devN c k, devN_lt c k⟩

abbrev dmaL (k : Fin 8) : DmaSem sig := ⟨6 + k.val, by have := k.isLt; show 6 + k.val < 42; omega⟩
abbrev dmaR (i : Fin 4) (j : Fin 7) : DmaSem sig :=
  ⟨14 + 7 * i.val + j.val, by have := i.isLt; have := j.isLt; show 14 + 7 * i.val + j.val < 42; omega⟩
/-- The half of a pair an expert uses. -/
abbrev par (s : Fin 8) : Fin 2 := ⟨s.val % 2, Nat.mod_lt _ (by decide)⟩
abbrev lXa (b : Fin 2) : Fin 8 := ⟨1 + b.val, by have := b.isLt; omega⟩
abbrev lW (b : Fin 2) : Fin 8 := ⟨3 + b.val, by have := b.isLt; omega⟩
abbrev lYa (b : Fin 2) : Fin 8 := ⟨5 + b.val, by have := b.isLt; omega⟩

/-! ## The stretches -/

abbrev rX : Rect S2048x1024 := Rect.unit (s := S2048x1024) ![0, 0] S2048x1024.size inb_S2048x1024_S2048x1024_0_0
abbrev rS : Rect S2048x1 := Rect.unit (s := S2048x1) ![0, 0] S2048x1.size inb_S2048x1_S2048x1_0_0
abbrev rY : Rect S1024x1024 := Rect.unit (s := S1024x1024) ![0, 0] S1024x1024.size inb_S1024x1024_S1024x1024_0_0
abbrev rRow (k : Fin 8) : Rect S8x1024x1024 := Rect.unit (s := S8x1024x1024) ![k.val, 0, 0] S1x1024x1024.size (inbRow k)
abbrev rH3 (b : Fin 2) : Rect S2x1024x1024 := Rect.unit (s := S2x1024x1024) ![b.val, 0, 0] S1x1024x1024.size (inbH3 b)
abbrev rH4 (b : Fin 2) : Rect S2x8x128x1024 := Rect.unit (s := S2x8x128x1024) ![b.val, 0, 0, 0] S1x8x128x1024.size (inbH4 b)

/-- The block for the device `k` further: the rows the one-hot matrix picks. -/
def payX (c : Dev nD) (x : Vec F S2048x1024 .f32) (s0 s1 : Vec F S2048x1 .i32) (k : Fin 8) : FVec F S1x1024x1024 .bf16 :=
  k0_pay5 (k0_pay1 x) (k0_pay2 (F := F) s0) (k0_pay3 (F := F) s1) (iota .tc S1024x2048 32 [0] iota_S1024x2048_d0_w32) (Scalar.addi (wd c) (BitVec.ofNat 32 k.val))

/-- The sum with the block come back from the device `k` before added in. -/
def payO (c : Dev nD) (k : Fin 8) (s0 : Vec F S2048x1 .i32) (g0 : Vec F S2048x1 .f32) (s1 : Vec F S2048x1 .i32) (g1 : Vec F S2048x1 .f32)
    (o : Vec F S2048x1024 .f32) (y : Vec F S1024x1024 .bf16) : FVec F S2048x1024 .f32 :=
  k0_pay32 (iota .tc S2048x1024 32 [1] iota_S2048x1024_d1_w32)
    (Scalar.remsi (Scalar.addi (Scalar.subi (wd c) (BitVec.ofNat 32 k.val)) 8#32) 8#32) s0 g0 s1 g1 o y

def put (c : Dev nD) (x : Vec F S2048x1024 .f32) (s0 s1 : Vec F S2048x1 .i32) (k : Fin 8) (K : Pr F) : Pr F :=
  .op (.load bXs (rRow k).toLoadRect (View.loadsAt_vmem h_S1x1024x1024)) fun _ =>
  .op (.store bXs (rRow k) (payX c x s0 s1 k) Finset.univ (View.stores_vmem h_S1x1024x1024 (bXs_whole.storeExact_slice rfl _ (packedRow k)) (fun _ => rfl)) (.inl rfl)) fun _ => K

def keep (c : Dev nD) (K : Pr F) : Pr F :=
  .op (.enqueueDma (row bXs 0) (.here (own bXr c)) (.dma (dmaL 0)) (exact_row bXs_whole 0) (exact_own bXr_whole c) ⟨Or.inl rfl, trivial⟩) fun _ => K

abbrev up (k : Fin 7) : Fin 8 := ⟨k.val + 1, by have := k.isLt; omega⟩

def send (c : Dev nD) (k : Fin 7) (K : Pr F) : Pr F :=
  .op (.enqueueDma (row bXs (up k)) (.remote (Dev.tc (devA c k)) (own bXr c) (.dma (dmaR 0 k))) (.dma (dmaR 1 k))
    (exact_row bXs_whole (up k)) (exact_own bXr_whole c) ⟨⟨rfl, Or.inl rfl⟩, trivial⟩) fun _ => K

def dispatch (c : Dev nD) (x : Vec F S2048x1024 .f32) (s0 s1 : Vec F S2048x1 .i32) (k : Fin 7) (K : Pr F) : Pr F :=
  put c x s0 s1 (up k) (send c k K)

def kept (c : Dev nD) (K : Pr F) : Pr F :=
  .op (.waitDma2 (dmaL 0) (row bXs 0) (own bXr c) (exact_row bXs_whole 0) (exact_own bXr_whole c)) fun _ => K

def receive (c : Dev nD) (k : Fin 7) (K : Pr F) : Pr F :=
  .op (.waitDma2 (dmaR 1 k) (row bXs (up k)) (own bXr c) (exact_row bXs_whole (up k)) (exact_own bXr_whole c)) fun _ => K

def startW (s : Fin 8) (K : Pr F) : Pr F :=
  .op (.enqueueDma (row bEw s) (.here (half3 bW (par s))) (.dma (dmaL (lW (par s)))) (exact_row bEw_whole s) (exact_half3 bW_whole (par s)) ⟨Or.inl rfl, trivial⟩) fun _ => K
def startX (s : Fin 8) (K : Pr F) : Pr F :=
  .op (.enqueueDma (col bXr s) (.here (half4 bXa (par s))) (.dma (dmaL (lXa (par s)))) (exact_col bXr_whole s) (exact_half4 bXa_whole (par s)) ⟨Or.inl rfl, trivial⟩) fun _ => K
def waitW (s : Fin 8) (K : Pr F) : Pr F :=
  .op (.waitDma2 (dmaL (lW (par s))) (row bEw s) (half3 bW (par s)) (exact_row bEw_whole s) (exact_half3 bW_whole (par s))) fun _ => K
def waitX (s : Fin 8) (K : Pr F) : Pr F :=
  .op (.waitDma2 (dmaL (lXa (par s))) (col bXr s) (half4 bXa (par s)) (exact_col bXr_whole s) (exact_half4 bXa_whole (par s))) fun _ => K
def product (s : Fin 8) (K : Pr F) : Pr F :=
  .op (.load bXa (rH4 (par s)).toLoadRect (View.loadsAt_vmem h_S1x8x128x1024)) fun xa =>
  .op (.load bW (rH3 (par s)).toLoadRect (View.loadsAt_vmem h_S1x1024x1024)) fun w =>
  .op (.load bYa (rH4 (par s)).toLoadRect (View.loadsAt_vmem h_S1x8x128x1024)) fun _ =>
  .op (.store bYa (rH4 (par s)) (k0_pay16 xa w) Finset.univ (View.stores_vmem h_S1x8x128x1024 (bYa_whole.storeExact_slice rfl _ (packedH4 (par s))) (fun _ => rfl)) (.inl rfl)) fun _ => K
def startY (s : Fin 8) (K : Pr F) : Pr F :=
  .op (.enqueueDma (half4 bYa (par s)) (.here (col bYs s)) (.dma (dmaL (lYa (par s)))) (exact_half4 bYa_whole (par s)) (exact_col bYs_whole s) ⟨Or.inl rfl, trivial⟩) fun _ => K
def waitY (s : Fin 8) (K : Pr F) : Pr F :=
  .op (.waitDma2 (dmaL (lYa (par s))) (half4 bYa (par s)) (col bYs s) (exact_half4 bYa_whole (par s)) (exact_col bYs_whole s)) fun _ => K

/-- Expert `s` in the loop's middle: the next expert's copies, its own data, the buffer two before, its product. -/
def expert (i : Fin 5) (K : Pr F) : Pr F :=
  startW ⟨i.val + 3, by omega⟩ <| startX ⟨i.val + 3, by omega⟩ <| waitW ⟨i.val + 2, by omega⟩ <| waitX ⟨i.val + 2, by omega⟩ <|
  waitY ⟨i.val, by omega⟩ <| product ⟨i.val + 2, by omega⟩ <| startY ⟨i.val + 2, by omega⟩ K

def giveBack (c : Dev nD) (k : Fin 7) (K : Pr F) : Pr F :=
  .op (.enqueueDma (ahead bYs c k) (.remote (Dev.tc (devA c k)) (own bYr c) (.dma (dmaR 2 k))) (.dma (dmaR 3 k))
    (exact_ahead bYs_whole c k) (exact_own bYr_whole c) ⟨⟨rfl, Or.inl rfl⟩, trivial⟩) fun _ => K

def keepY (c : Dev nD) (K : Pr F) : Pr F :=
  .op (.enqueueDma (own bYs c) (.here (own bYr c)) (.dma (dmaL 0)) (exact_own bYs_whole c) (exact_own bYr_whole c) ⟨Or.inl rfl, trivial⟩) fun _ => K

def clear (K : Pr F) : Pr F :=
  .op (.load bOut rX.toLoadRect (View.loadsAt_vmem h_S2048x1024)) fun _ =>
  .op (.store bOut rX k0_pay26 Finset.univ (View.stores_vmem_bits_univ h_S2048x1024 rfl) (.inl rfl)) fun _ => K

def keptY (c : Dev nD) (K : Pr F) : Pr F :=
  .op (.waitDma2 (dmaL 0) (own bYs c) (own bYr c) (exact_own bYs_whole c) (exact_own bYr_whole c)) fun _ => K
def receiveY (c : Dev nD) (k : Fin 7) (K : Pr F) : Pr F :=
  .op (.waitDma2 (dmaR 3 k) (ahead bYs c k) (own bYr c) (exact_ahead bYs_whole c k) (exact_own bYr_whole c)) fun _ => K

def combine (c : Dev nD) (k : Fin 8) (K : Pr F) : Pr F :=
  .op (.enqueueDma (back bYr c k) (.here bY) (.dma (dmaL 7)) (exact_back bYr_whole c k) bY_whole.wordExact ⟨Or.inl rfl, trivial⟩) fun _ =>
  .op (.load bS0 rS.toLoadRect (View.loadsAt_vmem h_S2048x1)) fun s0 =>
  .op (.load bG0 rS.toLoadRect (View.loadsAt_vmem h_S2048x1)) fun g0 =>
  .op (.load bS1 rS.toLoadRect (View.loadsAt_vmem h_S2048x1)) fun s1 =>
  .op (.load bG1 rS.toLoadRect (View.loadsAt_vmem h_S2048x1)) fun g1 =>
  .op (.waitDma2 (dmaL 7) (back bYr c k) bY (exact_back bYr_whole c k) bY_whole.wordExact) fun _ =>
  .op (.load bOut rX.toLoadRect (View.loadsAt_vmem h_S2048x1024)) fun o =>
  .op (.load bY rY.toLoadRect (View.loadsAt_vmem h_S1024x1024)) fun y =>
  .op (.load bOut rX.toLoadRect (View.loadsAt_vmem h_S2048x1024)) fun _ =>
  .op (.store bOut rX (payO c k s0 g0 s1 g1 o y) Finset.univ (View.stores_vmem_bits_univ h_S2048x1024 rfl) (.inl rfl)) fun _ => K

def collect (c : Dev nD) (k : Fin 7) (K : Pr F) : Pr F := receiveY c k (combine c (up k) K)

def sentX (c : Dev nD) (k : Fin 7) (K : Pr F) : Pr F :=
  .op (.waitDma2 (dmaR 0 k) (own bXr c) (row bXs (up k)) (exact_own bXr_whole c) (exact_row bXs_whole (up k))) fun _ => K
def sentY (c : Dev nD) (k : Fin 7) (K : Pr F) : Pr F :=
  .op (.waitDma2 (dmaR 2 k) (own bYr c) (ahead bYs c k) (exact_own bYr_whole c) (exact_ahead bYs_whole c k)) fun _ => K

/-- Seven of a stretch, in order. -/
abbrev seven (step : Fin 7 → Pr F → Pr F) (K : Pr F) : Pr F :=
  step 0 <| step 1 <| step 2 <| step 3 <| step 4 <| step 5 <| step 6 K
abbrev five (step : Fin 5 → Pr F → Pr F) (K : Pr F) : Pr F :=
  step 0 <| step 1 <| step 2 <| step 3 <| step 4 K

/-- The experts' stretch. -/
def experts (K : Pr F) : Pr F :=
  startW 0 <| startX 0 <| startW 1 <| startX 1 <| waitW 0 <| waitX 0 <| product 0 <| startY 0 <|
  startW 2 <| startX 2 <| waitW 1 <| waitX 1 <| product 1 <| startY 1 <|
  five expert <| waitW 7 <| waitX 7 <| waitY 5 <| product 7 <| startY 7 <| waitY 6 <| waitY 7 <| K

/-- The body. -/
def prog : Pr F :=
  .op .deviceId fun c =>
  .op (.load bX rX.toLoadRect (View.loadsAt_vmem h_S2048x1024)) fun x =>
  .op (.load bS0 rS.toLoadRect (View.loadsAt_vmem h_S2048x1)) fun s0 =>
  .op (.load bS1 rS.toLoadRect (View.loadsAt_vmem h_S2048x1)) fun s1 =>
  put c x s0 s1 0 <| keep c <| seven (dispatch c x s0 s1) <| kept c <| seven (receive c) <|
  experts <| seven (giveBack c) <| keepY c <| clear <| keptY c <| combine c 0 <| seven (collect c) <|
  seven (sentX c) <| seven (sentY c) <| .ret ⟨⟩

set_option maxRecDepth 65536 in
set_option maxHeartbeats 4000000 in
/-- The printed body is the stretches in their order. -/
theorem body_eq : cc0_body_skel (F := F) bX (hstage0_0 0) bS0 (hstage0_1 0) bS1 (hstage0_2 0) bG0 (hstage0_3 0) bG1 (hstage0_4 0) bEw (Memref.isWhole_whole _) bOut (hstage0_5 0)
    bXr (Memref.isWhole_whole _) bYs (Memref.isWhole_whole _) bYr (Memref.isWhole_whole _) bXs (Memref.isWhole_whole _) bXa (Memref.isWhole_whole _) bW (Memref.isWhole_whole _)
    bYa (Memref.isWhole_whole _) bY (Memref.isWhole_whole _) cc0_scratch5 cc0_scratch6 cc0_scratch7 cc0_scratch8 cc0_scratch9 cc0_scratch10 cc0_scratch11 cc0_scratch12 cc0_scratch13
    = prog (F := F) := by
  chain_rfl

end Cert.Proof

end
-- ==== Proof.Geo.lean ====
/-
  Where the kernel's blocks, columns and halves lie in their buffers: the index a view's index names, and the families
  of blocks, columns and halves as partitions.
-/
module

public import proofs.«01_k».proof.Proof.Text
public import Idealize.ShloMosaic.Lib.ValueLayout
public import Idealize.ShloMosaic.Lib.ValueIdxCoords
public import Idealize.ShloMosaic.Lib.Ring

@[expose] public section

noncomputable section

namespace Cert.Proof

open Cert.KernelIdeal Cert.KernelIdeal.Gen
open Idealize.ShloMosaic Idealize.ShloMosaic.TcCoe Idealize.ShloMosaic.ValueIdx
open Idealize.SL Idealize.SL.Sem

/-- The row of a block an expert's row is. -/
abbrev row128 (s : Fin 8) (p : Fin 128) : Fin 1024 := ⟨128 * s.val + p.val, by have := s.isLt; have := p.isLt; omega⟩

section Emb
variable {sp : Space} (M : Memref sig .tc sp S8x1024x1024 .bf16)

/-- Where a row's index lies in its buffer. -/
theorem row_emb (k : Fin 8) (a b : Fin 1024) : (row M k).view.emb (ix2 a b) = M.view.emb (ix3 k a b) := by
  show M.view.emb ((Rect.unit (s := S8x1024x1024) ![k.val, 0, 0] S1x1024x1024.size (inbRow k)).emb (Shape.reshapeEquiv _ (ix2 a b))) = _
  rw [reshapeEquiv_ix2_1ab]
  congr 1
  funext x
  apply Fin.ext
  rw [Rect.emb_apply]
  fin_cases x <;> simp [Rect.unit, ix3]

/-- Where an index of a store to a row lies in its buffer. -/
theorem rowAcc_emb (k : Fin 8) (z : Fin 1) (a b : Fin 1024) : (M.access (rRow k)).emb (ix3 z a b) = M.view.emb (ix3 k a b) := by
  show M.view.emb ((rRow k).emb (ix3 z a b)) = _
  congr 1
  funext x
  apply Fin.ext
  rw [Rect.emb_apply]
  fin_cases x <;> simp [Rect.unit, ix3]

/-- Blocks at equal offsets are equal. -/
theorem slot_congr {o o' : Fin 3 → Nat} (h : ∀ a, o a + S1x1024x1024.size a ≤ S8x1024x1024.size a) (h' : ∀ a, o' a + S1x1024x1024.size a ≤ S8x1024x1024.size a)
    (e : o = o') : slot M o h = slot M o' h' := by subst e; rfl

/-- A row and the store to it have the same elements. -/
theorem row_set (k : Fin 8) : (row M k).view.set = (M.access (rRow k)).set := View.set_reshape _ _
end Emb

/-- The device `k` further on the ring, and `k` before. -/
abbrev fwd (c : Dev nD) (k : Fin 8) : Dev nD := ⟨(c.val + k.val) % 8, Nat.mod_lt _ (by decide)⟩
abbrev bwd (c : Dev nD) (k : Fin 8) : Dev nD := ⟨(c.val + 8 - k.val) % 8, Nat.mod_lt _ (by decide)⟩

/-- The device's own block is the row of its number. -/
theorem own_eq {sp : Space} (M : Memref sig .tc sp S8x1024x1024 .bf16) (c : Dev nD) : own M c = row M c :=
  slot_congr M _ _ (k0_off1_eq c)
/-- The block of the device `1 + k` further is the row of that device's number. -/
theorem ahead_eq {sp : Space} (M : Memref sig .tc sp S8x1024x1024 .bf16) (c : Dev nD) (k : Fin 7) : ahead M c k = row M (fwd c (up k)) :=
  slot_congr M _ _ ((k0_off2_eq c k).trans (by congr 1))
/-- The block of the device `k` before is the row of that device's number. -/
theorem back_eq {sp : Space} (M : Memref sig .tc sp S8x1024x1024 .bf16) (c : Dev nD) (k : Fin 8) : back M c k = row M (bwd c k) :=
  slot_congr M _ _ (k0_off3_eq c k)
/-- The device that the program computes is the device `1 + k` further. -/
theorem devA_eq (c : Dev nD) (k : Fin 7) : devA c k = fwd c (up k) := by revert c k; decide +kernel

/-- Where an index of an expert's rows lies in its buffer. -/
theorem col_emb (M : Memref sig .tc .hbm S8x1024x1024 .bf16) (s : Fin 8) (d : Fin 8) (p : Fin 128) (h : Fin 1024) :
    (col M s).view.emb (ix3 d p h) = M.view.emb (ix3 d (row128 s p) h) := by
  show M.view.emb ((Rect.unit (s := S8x1024x1024) ![0, 128 * s.val, 0] S8x128x1024.size (inbCol s)).emb (ix3 d p h)) = _
  congr 1
  funext x
  apply Fin.ext
  rw [Rect.emb_apply]
  fin_cases x <;> simp [Rect.unit, ix3]

/-- Where an index of a half lies in the weights' double buffer. -/
theorem half3_emb (M : Memref sig .tc .vmem S2x1024x1024 .bf16) (b : Fin 2) (i h : Fin 1024) : (half3 M b).view.emb (ix2 i h) = M.view.emb (ix3 b i h) := by
  show M.view.emb ((Rect.unit (s := S2x1024x1024) ![b.val, 0, 0] S1x1024x1024.size (inbH3 b)).emb (Shape.reshapeEquiv _ (ix2 i h))) = _
  rw [reshapeEquiv_ix2_1ab]
  congr 1
  funext x
  apply Fin.ext
  rw [Rect.emb_apply]
  fin_cases x <;> simp [Rect.unit, ix3]

/-- Where an index of a load of a half lies in the weights' double buffer. -/
theorem half3Acc_emb (M : Memref sig .tc .vmem S2x1024x1024 .bf16) (b : Fin 2) (z : Fin 1) (i h : Fin 1024) : (M.access (rH3 b)).emb (ix3 z i h) = M.view.emb (ix3 b i h) := by
  show M.view.emb ((rH3 b).emb (ix3 z i h)) = _
  congr 1
  funext x
  apply Fin.ext
  rw [Rect.emb_apply]
  fin_cases x <;> simp [Rect.unit, ix3]

/-- Where an index of a half lies in a row double buffer. -/
theorem half4_emb (M : Memref sig .tc .vmem S2x8x128x1024 .bf16) (b : Fin 2) (d : Fin 8) (p : Fin 128) (h : Fin 1024) :
    (half4 M b).view.emb (ix3 d p h) = M.view.emb (ix4 b d p h) := by
  show M.view.emb ((Rect.unit (s := S2x8x128x1024) ![b.val, 0, 0, 0] S1x8x128x1024.size (inbH4 b)).emb (Shape.reshapeEquiv _ (ix3 d p h))) = _
  rw [reshapeEquiv_ix3_1abc]
  congr 1
  funext x
  apply Fin.ext
  rw [Rect.emb_apply]
  fin_cases x <;> simp [Rect.unit, ix4]

/-- Where an index of an access of a half lies in a row double buffer. -/
theorem half4Acc_emb (M : Memref sig .tc .vmem S2x8x128x1024 .bf16) (b : Fin 2) (z : Fin 1) (d : Fin 8) (p : Fin 128) (h : Fin 1024) :
    (M.access (rH4 b)).emb (ix4 z d p h) = M.view.emb (ix4 b d p h) := by
  show M.view.emb ((rH4 b).emb (ix4 z d p h)) = _
  congr 1
  funext x
  apply Fin.ext
  rw [Rect.emb_apply]
  fin_cases x <;> simp [Rect.unit, ix4]

/-- A half of the weights' double buffer and the load of it have the same elements. -/
theorem half3_set (M : Memref sig .tc .vmem S2x1024x1024 .bf16) (b : Fin 2) : (half3 M b).view.set = (M.access (rH3 b)).set := View.set_reshape _ _
/-- A half of a row double buffer and the access of it have the same elements. -/
theorem half4_set (M : Memref sig .tc .vmem S2x8x128x1024 .bf16) (b : Fin 2) : (half4 M b).view.set = (M.access (rH4 b)).set := View.set_reshape _ _

/-! ## Partitions -/

/-- Different rows of a buffer share no element. -/
theorem rows_disjoint {sp : Space} (M : Memref sig .tc sp S8x1024x1024 .bf16) (k k' : Fin 8) (h : k ≠ k') : Disjoint (row M k).view.set (row M k').view.set := by
  refine Finset.disjoint_left.mpr fun i hi hi' => ?_
  obtain ⟨z, -, hz⟩ := Finset.mem_map.mp hi
  obtain ⟨z', -, hz'⟩ := Finset.mem_map.mp hi'
  rw [eq_ix2 z] at hz; rw [eq_ix2 z'] at hz'
  have h1 := (row_emb M k (z 0) (z 1)).symm.trans (hz.trans (hz'.symm.trans (row_emb M k' (z' 0) (z' 1))))
  exact h (congrFun (M.view.emb.injective h1) 0)

/-- The eight rows are the whole buffer. -/
theorem rows_cover {sp : Space} (M : Memref sig .tc sp S8x1024x1024 .bf16) : (Finset.univ.biUnion fun k : Fin 8 => (row M k).view.set) = M.view.set := by
  ext i
  simp only [Finset.mem_biUnion, Finset.mem_univ, true_and]
  constructor
  · rintro ⟨k, hi⟩
    obtain ⟨z, -, hz⟩ := Finset.mem_map.mp hi
    rw [eq_ix2 z] at hz
    exact Finset.mem_map.mpr ⟨ix3 k (z 0) (z 1), Finset.mem_univ _, (row_emb M k (z 0) (z 1)).symm.trans hz⟩
  · intro hi
    obtain ⟨z, -, hz⟩ := Finset.mem_map.mp hi
    rw [eq_ix3 z] at hz
    exact ⟨z 0, Finset.mem_map.mpr ⟨ix2 (z 1) (z 2), Finset.mem_univ _, (row_emb M (z 0) (z 1) (z 2)).trans hz⟩⟩

/-- A row among an expert's rows tells the expert and the place. -/
theorem row128_inj {s s' : Fin 8} {p p' : Fin 128} (h : row128 s p = row128 s' p') : s = s' ∧ p = p' := by
  have h' := congrArg Fin.val h
  have := p.isLt; have := p'.isLt
  simp only at h'
  exact ⟨Fin.ext (by omega), Fin.ext (by omega)⟩

/-- An expert row of a block: its expert, its position. -/
abbrev exp128 (j : Fin 1024) : Fin 8 := ⟨j.val / 128, by have := j.isLt; omega⟩
abbrev pos128 (j : Fin 1024) : Fin 128 := ⟨j.val % 128, Nat.mod_lt _ (by decide)⟩
/-- A row is its expert's row at its place. -/
theorem row128_exp_pos (j : Fin 1024) : row128 (exp128 j) (pos128 j) = j := Fin.ext (Nat.div_add_mod j.val 128)
/-- The expert of an expert's row. -/
theorem exp128_row (s : Fin 8) (p : Fin 128) : exp128 (row128 s p) = s := Fin.ext (by have := p.isLt; simp only; omega)
/-- The place of an expert's row. -/
theorem pos128_row (s : Fin 8) (p : Fin 128) : pos128 (row128 s p) = p := Fin.ext (by have := p.isLt; simp only; omega)

/-- The rows of different experts share no element. -/
theorem cols_disjoint (M : Memref sig .tc .hbm S8x1024x1024 .bf16) (k k' : Fin 8) (h : k ≠ k') : Disjoint (col M k).view.set (col M k').view.set := by
  refine Finset.disjoint_left.mpr fun i hi hi' => ?_
  obtain ⟨z, -, hz⟩ := Finset.mem_map.mp hi
  obtain ⟨z', -, hz'⟩ := Finset.mem_map.mp hi'
  rw [eq_ix3 z] at hz; rw [eq_ix3 z'] at hz'
  have h1 := (col_emb M k (z 0) (z 1) (z 2)).symm.trans (hz.trans (hz'.symm.trans (col_emb M k' (z' 0) (z' 1) (z' 2))))
  exact h (row128_inj (congrFun (M.view.emb.injective h1) 1)).1

/-- The eight experts' rows are the whole buffer. -/
theorem cols_cover (M : Memref sig .tc .hbm S8x1024x1024 .bf16) : (Finset.univ.biUnion fun k : Fin 8 => (col M k).view.set) = M.view.set := by
  ext i
  simp only [Finset.mem_biUnion, Finset.mem_univ, true_and]
  constructor
  · rintro ⟨k, hi⟩
    obtain ⟨z, -, hz⟩ := Finset.mem_map.mp hi
    rw [eq_ix3 z] at hz
    exact Finset.mem_map.mpr ⟨ix3 (z 0) (row128 k (z 1)) (z 2), Finset.mem_univ _, (col_emb M k (z 0) (z 1) (z 2)).symm.trans hz⟩
  · intro hi
    obtain ⟨z, -, hz⟩ := Finset.mem_map.mp hi
    rw [eq_ix3 z] at hz
    refine ⟨exp128 (z 1), Finset.mem_map.mpr ⟨ix3 (z 0) (pos128 (z 1)) (z 2), Finset.mem_univ _, (col_emb M _ (z 0) (pos128 (z 1)) (z 2)).trans ?_⟩⟩
    exact (congrArg (fun r => M.view.emb (ix3 (z 0 : Fin 8) r (z 2 : Fin 1024))) (row128_exp_pos (z 1))).trans hz

/-- The halves of the weights' double buffer share no element. -/
theorem halves3_disjoint (M : Memref sig .tc .vmem S2x1024x1024 .bf16) (k k' : Fin 2) (h : k ≠ k') : Disjoint (half3 M k).view.set (half3 M k').view.set := by
  refine Finset.disjoint_left.mpr fun i hi hi' => ?_
  obtain ⟨z, -, hz⟩ := Finset.mem_map.mp hi
  obtain ⟨z', -, hz'⟩ := Finset.mem_map.mp hi'
  rw [eq_ix2 z] at hz; rw [eq_ix2 z'] at hz'
  have h1 := (half3_emb M k (z 0) (z 1)).symm.trans (hz.trans (hz'.symm.trans (half3_emb M k' (z' 0) (z' 1))))
  exact h (congrFun (M.view.emb.injective h1) 0)

/-- The two halves are the whole of the weights' double buffer. -/
theorem halves3_cover (M : Memref sig .tc .vmem S2x1024x1024 .bf16) : (Finset.univ.biUnion fun k : Fin 2 => (half3 M k).view.set) = M.view.set := by
  ext i
  simp only [Finset.mem_biUnion, Finset.mem_univ, true_and]
  constructor
  · rintro ⟨k, hi⟩
    obtain ⟨z, -, hz⟩ := Finset.mem_map.mp hi
    rw [eq_ix2 z] at hz
    exact Finset.mem_map.mpr ⟨ix3 k (z 0) (z 1), Finset.mem_univ _, (half3_emb M k (z 0) (z 1)).symm.trans hz⟩
  · intro hi
    obtain ⟨z, -, hz⟩ := Finset.mem_map.mp hi
    rw [eq_ix3 z] at hz
    exact ⟨z 0, Finset.mem_map.mpr ⟨ix2 (z 1) (z 2), Finset.mem_univ _, (half3_emb M (z 0) (z 1) (z 2)).trans hz⟩⟩

/-- The halves of a row double buffer share no element. -/
theorem halves4_disjoint (M : Memref sig .tc .vmem S2x8x128x1024 .bf16) (k k' : Fin 2) (h : k ≠ k') : Disjoint (half4 M k).view.set (half4 M k').view.set := by
  refine Finset.disjoint_left.mpr fun i hi hi' => ?_
  obtain ⟨z, -, hz⟩ := Finset.mem_map.mp hi
  obtain ⟨z', -, hz'⟩ := Finset.mem_map.mp hi'
  rw [eq_ix3 z] at hz; rw [eq_ix3 z'] at hz'
  have h1 := (half4_emb M k (z 0) (z 1) (z 2)).symm.trans (hz.trans (hz'.symm.trans (half4_emb M k' (z' 0) (z' 1) (z' 2))))
  exact h (congrFun (M.view.emb.injective h1) 0)

/-- The two halves are the whole of a row double buffer. -/
theorem halves4_cover (M : Memref sig .tc .vmem S2x8x128x1024 .bf16) : (Finset.univ.biUnion fun k : Fin 2 => (half4 M k).view.set) = M.view.set := by
  ext i
  simp only [Finset.mem_biUnion, Finset.mem_univ, true_and]
  constructor
  · rintro ⟨k, hi⟩
    obtain ⟨z, -, hz⟩ := Finset.mem_map.mp hi
    rw [eq_ix3 z] at hz
    exact Finset.mem_map.mpr ⟨ix4 k (z 0) (z 1) (z 2), Finset.mem_univ _, (half4_emb M k (z 0) (z 1) (z 2)).symm.trans hz⟩
  · intro hi
    obtain ⟨z, -, hz⟩ := Finset.mem_map.mp hi
    rw [eq_ix4 z] at hz
    exact ⟨z 0, Finset.mem_map.mpr ⟨ix3 (z 1) (z 2) (z 3), Finset.mem_univ _, (half4_emb M (z 0) (z 1) (z 2) (z 3)).trans hz⟩⟩

end Cert.Proof

end
-- ==== Proof.Protocol.lean ====
/-
  The exchange's protocol: what every buffer holds once it is written, as functions of the launch memory, and the
  schedule of the remote copies' semaphores — every cell one round of one duty, the landing of one copy, whose payload is
  the landed block at its contents; what a device owes at launch; the levels that order the waits.
-/
module

public import proofs.«01_k».proof.Proof.Geo

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Contents -/

/-- A device's inputs as they are staged. -/
def xIn (c : Dev nD) : Vec F S2048x1024 .f32 := (win0_0.blk (0 : Fin 1)).view.read (Elt F) (m ((c : Thread nD τ).loc main_arg0))
def s0In (c : Dev nD) : Vec F S2048x1 .i32 := (win0_1.blk (0 : Fin 1)).view.read (Elt F) (m ((c : Thread nD τ).loc main_arg1))
def s1In (c : Dev nD) : Vec F S2048x1 .i32 := (win0_2.blk (0 : Fin 1)).view.read (Elt F) (m ((c : Thread nD τ).loc main_arg2))
def g0In (c : Dev nD) : Vec F S2048x1 .f32 := (win0_3.blk (0 : Fin 1)).view.read (Elt F) (m ((c : Thread nD τ).loc main_arg3))
def g1In (c : Dev nD) : Vec F S2048x1 .f32 := (win0_4.blk (0 : Fin 1)).view.read (Elt F) (m ((c : Thread nD τ).loc main_arg4))
/-- Its experts' weights. -/
def ewIn (c : Dev nD) : S8x1024x1024.Idx → Elt F .bf16 := m ((c : Thread nD τ).loc main_arg5)

/-- The blocks a device sends: block `k` for the device `k` further. -/
def XS (c : Dev nD) : S8x1024x1024.Idx → Elt F .bf16 := fun i =>
  payX c (xIn m c) (s0In m c) (s1In m c) (i 0 : Fin 8) (ix3 (0 : Fin 1) (i 1 : Fin 1024) (i 2 : Fin 1024))
/-- The blocks it receives, by sender. -/
def XR (c : Dev nD) : S8x1024x1024.Idx → Elt F .bf16 := fun i =>
  XS m (i 0 : Fin 8) (ix3 (bwd c (i 0 : Fin 8)) (i 1 : Fin 1024) (i 2 : Fin 1024))
/-- Expert `s`'s rows of them, its weights, its product (in whichever half). -/
def XA (c : Dev nD) (s : Fin 8) : S2x8x128x1024.Idx → Elt F .bf16 := fun i =>
  XR m c (ix3 (i 1 : Fin 8) (row128 s (i 2 : Fin 128)) (i 3 : Fin 1024))
def WB (c : Dev nD) (s : Fin 8) : S2x1024x1024.Idx → Elt F .bf16 := fun i =>
  ewIn m c (ix3 s (i 1 : Fin 1024) (i 2 : Fin 1024))
def YA (c : Dev nD) (s : Fin 8) : S2x8x128x1024.Idx → Elt F .bf16 := fun i =>
  k0_pay16 (fun z : S1x8x128x1024.Idx => XA m c s (ix4 (0 : Fin 2) (z 1 : Fin 8) (z 2 : Fin 128) (z 3 : Fin 1024)))
    (fun z : S1x1024x1024.Idx => WB m c s (ix3 (0 : Fin 2) (z 1 : Fin 1024) (z 2 : Fin 1024)))
    (ix4 (0 : Fin 1) (i 1 : Fin 8) (i 2 : Fin 128) (i 3 : Fin 1024))
/-- The blocks it gives back, by receiver. -/
def YS (c : Dev nD) : S8x1024x1024.Idx → Elt F .bf16 := fun i =>
  YA m c (exp128 (i 1 : Fin 1024)) (ix4 (0 : Fin 2) (i 0 : Fin 8) (pos128 (i 1 : Fin 1024)) (i 2 : Fin 1024))
/-- The blocks come back to it, by the device they come back from. -/
def YR (c : Dev nD) : S8x1024x1024.Idx → Elt F .bf16 := fun i =>
  YS m (i 0 : Fin 8) (ix3 (c : Fin 8) (i 1 : Fin 1024) (i 2 : Fin 1024))
/-- The block the combination takes at step `k`. -/
def YB (c : Dev nD) (k : Fin 8) : Vec F S1024x1024 .bf16 := fun i => YR m c (ix3 (bwd c k : Fin 8) (i 0 : Fin 1024) (i 1 : Fin 1024))
/-- The result after `n` combinations. -/
def OUT (c : Dev nD) : ℕ → Vec F S2048x1024 .f32
  | 0 => k0_pay26
  | n + 1 => if h : n < 8 then payO c ⟨n, h⟩ (s0In m c) (g0In m c) (s1In m c) (g1In m c) (OUT c n) (YB m c ⟨n, h⟩) else OUT c n

/-- The result after one more combination. -/
theorem OUT_succ (c : Dev nD) (k : Fin 8) :
    OUT m c (k.val + 1) = payO c k (s0In m c) (g0In m c) (s1In m c) (g1In m c) (OUT m c k.val) (YB m c k) := by
  rw [OUT, dif_pos k.isLt]

/-! ## Holding a view's elements -/

/-- Device `c` holds a view's elements, at contents `f`; at some contents. -/
abbrev at_ {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f
abbrev any {sp : Space} {s : Shape} {e : EltTy} (M : Memref sig .tc sp s e) (c : Dev nD) : sProp 𝕄 := iprop(∃ f, at_ M c f)

/-! ## The schedule -/

abbrev cell (c : Dev nD) (i : Fin 4) (j : Fin 7) : GSem nD τ sig := ((c : Thread nD τ), .dma (dmaR i j))

/-- What one block's copy credits. -/
abbrev N : ℕ := (row bXr 0).view.dmaCredit
/-- A block's copy credits a positive number of units. -/
theorem N_pos : 0 < N := View.dmaCredit_pos _ (by decide)

abbrev kindOf (q : DmaSem sig) : Fin 4 := ⟨(q.val - 14) / 7, by have : q.val < 42 := q.isLt; omega⟩
abbrev idxOf (q : DmaSem sig) : Fin 7 := ⟨(q.val - 14) % 7, Nat.mod_lt _ (by decide)⟩
/-- The kind of an exchange semaphore. -/
theorem kindOf_R (i : Fin 4) (j : Fin 7) : kindOf (dmaR i j) = i := by revert i j; decide
/-- The number of an exchange semaphore within its kind. -/
theorem idxOf_R (i : Fin 4) (j : Fin 7) : idxOf (dmaR i j) = j := by revert i j; decide

/-- What a landing hands over: the block sent, back; the block received; the block given back is read only; the block come back. -/
def pay (c : Dev nD) (i : Fin 4) (j : Fin 7) : sProp 𝕄 :=
  if i = 0 then any (F := F) (row bXs (up j)) c
  else if i = 1 then at_ (row bXr (bwd c (up j))) c (XR m c)
  else if i = 3 then at_ (row bYr (bwd c (up j))) c (YR m c)
  else iprop(emp)

instance pay_storable (c : Dev nD) (i : Fin 4) (j : Fin 7) : BI.Storable (upEmb : UEmb _ 𝕄) (pay m c i j) := by
  unfold pay; (repeat' split) <;> infer_instance

abbrev IsCell (g : GSem nD τ sig) : Prop := g.1.2 = .tc ∧ ∃ i j, g.2 = .dma (dmaR i j)

def payG (g : GSem nD τ sig) : sProp 𝕄 :=
  match g.2 with
  | .dma q => pay m g.1.1 (kindOf q) (idxOf q)
  | _ => iprop(emp)

open Classical in
def sched : Rounds.Schedule (GSem nD τ sig) Unit 𝕄 where
  duties g r := if r = 0 ∧ IsCell g then {()} else ∅
  unitless _ := False
  amount _ _ _ := N
  payload g _ _ := payG m g
  amount_pos _ _ _ _ := N_pos

instance sched_storable (g : GSem nD τ sig) (r : ℕ) (d : Unit) : BI.Storable (upEmb : UEmb _ 𝕄) ((sched m).payload g r d) := by
  show BI.Storable upEmb (payG m g)
  unfold payG; split <;> infer_instance

/-- An exchange semaphore has one duty in its first round. -/
theorem duties_cell (c : Dev nD) (i : Fin 4) (j : Fin 7) : (sched m).duties (cell c i j) 0 = {()} := by
  dsimp only [sched]; exact if_pos ⟨rfl, rfl, i, j, rfl⟩
/-- There are no duties after the first round. -/
theorem duties_later (g : GSem nD τ sig) : ∀ r, 1 ≤ r → (sched m).duties g r = ∅ :=
  fun r hr => by dsimp only [sched]; exact if_neg fun h => by omega
/-- Every duty credits one block's units. -/
theorem amount_cell (g : GSem nD τ sig) (r : ℕ) (u : Unit) : (sched m).amount g r u = N := rfl
/-- The first round of an exchange semaphore brings one block's units. -/
theorem expect_cell (c : Dev nD) (i : Fin 4) (j : Fin 7) : (sched m).expect (cell c i j) 0 = N := by
  unfold Schedule.expect Schedule.amountOf; rw [duties_cell, Finset.sum_singleton, amount_cell]
/-- What a duty of an exchange semaphore hands over. -/
theorem payload_cell (c : Dev nD) (i : Fin 4) (j : Fin 7) (r : ℕ) (u : Unit) : (sched m).payload (cell c i j) r u = pay m c i j := by
  show pay m c (kindOf (dmaR i j)) (idxOf (dmaR i j)) = _
  rw [kindOf_R, idxOf_R]
/-- What a whole round of an exchange semaphore hands over is its one payload. -/
theorem rest_cell (c : Dev nD) (i : Fin 4) (j : Fin 7) :
    bigSep ((sched m).duties (cell c i j) 0 \ ∅) (fun u => (sched m).payload (cell c i j) 0 u) = pay m c i j := by
  rw [Finset.sdiff_empty, duties_cell, bigSep_singleton, payload_cell]

/-! ## What a device owes -/

/-- The arrivals of the dispatched blocks from `n` on; -/
def oweX (c : Dev nD) (n : ℕ) : CellTallies nD τ sig Unit := ∑ k : Fin 7, if n ≤ k.val then tallyAt (cell (fwd c (up k)) 1 k) () N else 0
/-- of the blocks given back. -/
def oweY (c : Dev nD) (n : ℕ) : CellTallies nD τ sig Unit := ∑ k : Fin 7, if n ≤ k.val then tallyAt (cell (fwd c (up k)) 3 k) () N else 0
def O₀ (c : Dev nD) : CellTallies nD τ sig Unit := oweX c 0 + oweY c 0

/-- A sum from `k` on is the term at `k` and the sum from `k + 1` on. -/
theorem sum_tail {A : Type} [AddCommMonoid A] (a : Fin 7 → A) (k : Fin 7) :
    (∑ j : Fin 7, if k.val ≤ j.val then a j else 0) = (∑ j : Fin 7, if k.val + 1 ≤ j.val then a j else 0) + a k := by
  rw [show a k = ∑ j : Fin 7, if j = k then a j else 0 by simp, ← Finset.sum_add_distrib]
  refine Finset.sum_congr rfl fun j _ => ?_
  by_cases h : j = k
  · subst h; simp
  · have h' : j.val ≠ k.val := fun e => h (Fin.ext e)
    by_cases hk : k.val ≤ j.val
    · rw [if_pos hk, if_pos (by omega), if_neg h, add_zero]
    · rw [if_neg hk, if_neg (by omega), if_neg h, add_zero]
/-- A sum from seven on of seven terms is nothing. -/
theorem sum_none {A : Type} [AddCommMonoid A] (a : Fin 7 → A) : (∑ j : Fin 7, if 7 ≤ j.val then a j else 0) = 0 :=
  Finset.sum_eq_zero fun j _ => if_neg (by have := j.isLt; omega)

/-- After dispatch `k` a device owes one dispatch credit less. -/
theorem oweX_step (c : Dev nD) (k : Fin 7) : oweX c k.val = oweX c (k.val + 1) + tallyAt (cell (fwd c (up k)) 1 k) () N := sum_tail _ k
/-- After return `k` a device owes one return credit less. -/
theorem oweY_step (c : Dev nD) (k : Fin 7) : oweY c k.val = oweY c (k.val + 1) + tallyAt (cell (fwd c (up k)) 3 k) () N := sum_tail _ k
/-- After seven dispatches no dispatch credit is owed. -/
theorem oweX_end (c : Dev nD) : oweX c 7 = 0 := sum_none _
/-- After seven returns no return credit is owed. -/
theorem oweY_end (c : Dev nD) : oweY c 7 = 0 := sum_none _

/-- A positive sum has a positive term. -/
theorem sum_pos {a : Fin 7 → CellTallies nD τ sig Unit} {n : ℕ} {g : GSem nD τ sig} {u : Unit}
    (h : 0 < (∑ j : Fin 7, if n ≤ j.val then a j else 0 : CellTallies nD τ sig Unit) g u) : ∃ j, 0 < a j g u := by
  by_contra hn
  have hz : ∀ j, a j g u = 0 := fun j => Nat.eq_zero_of_not_pos fun h => hn ⟨j, h⟩
  rw [Finset.sum_apply, Finsupp.finset_sum_apply, Finset.sum_eq_zero fun j _ => ?_] at h
  · exact Nat.lt_irrefl 0 h
  · split
    · exact hz j
    · rfl

/-- One cell's tally is positive at that cell alone. -/
theorem tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

/-- The dispatch credits owed are all to cells on which dispatches land. -/
theorem oweX_pos {c : Dev nD} {n : ℕ} {g : GSem nD τ sig} {u : Unit} (h : 0 < oweX c n g u) : ∃ d k, g = cell d 1 k := by
  obtain ⟨j, hj⟩ := sum_pos h
  exact ⟨_, j, tally_pos hj⟩
/-- The return credits owed are all to cells on which returns land. -/
theorem oweY_pos {c : Dev nD} {n : ℕ} {g : GSem nD τ sig} {u : Unit} (h : 0 < oweY c n g u) : ∃ d k, g = cell d 3 k := by
  obtain ⟨j, hj⟩ := sum_pos h
  exact ⟨_, j, tally_pos hj⟩

/-! ## Levels -/

def L (g : GSem nD τ sig) : Finset Unit := if g.1.2 = .tc then {()} else ∅
/-- The returns' arrivals at 2, the dispatches' at 1, every other cell at 0. -/
def lvS : SemLoc sig → ℕ
  | .dma q => if 35 ≤ q.val then 2 else if 21 ≤ q.val ∧ q.val < 28 then 1 else 0
  | _ => 0
def lv (g : GSem nD τ sig) (_ : Unit) : ℕ := lvS g.2

/-- A processor that is not the tensor core has no levels. -/
theorem L_of_ne (g : GSem nD τ sig) (h : g.1.2 ≠ .tc) : L g = ∅ := if_neg h
/-- A tensor core's semaphore has one level. -/
theorem L_tc (c : Dev nD) (sm : SemLoc sig) : L ((c : Thread nD τ), sm) = {()} := if_pos rfl
/-- The level of a cell on which a dispatch lands. -/
theorem lv_X (d : Dev nD) (k : Fin 7) : lv (cell d 1 k) () = 1 := by
  show lvS (.dma (dmaR 1 k)) = 1
  revert k; decide
/-- The level of a cell on which a return lands. -/
theorem lv_Y (d : Dev nD) (k : Fin 7) : lv (cell d 3 k) () = 2 := by
  show lvS (.dma (dmaR 3 k)) = 2
  revert k; decide

/-- A cell below the returns' arrivals may be waited on owing those, or nothing; -/
theorem mayWait_Y (c : Dev nD) (sm : SemLoc sig) (h : lvS sm ≤ 1) (n : ℕ) : (levAts L lv : sProp 𝕄) ⊢ MayWait (c : Thread nD τ) sm () (oweY c n) :=
  MayOwe.of_cut (L := L) (lev := lv) 1 (fun p hp => by rw [Finset.mem_singleton.mp hp, L_tc]; exact Finset.mem_singleton_self _)
    (fun g u hg => by obtain ⟨d, k, rfl⟩ := oweY_pos hg; exact Finset.mem_singleton_self _)
    (fun p hp => by rw [Finset.mem_singleton.mp hp]; exact h)
    (fun g u hg => by obtain ⟨d, k, rfl⟩ := oweY_pos hg; rw [lv_Y]; decide)
/-- a cell of level 0 owing everything; -/
theorem mayWait_all (c : Dev nD) (sm : SemLoc sig) (h : lvS sm = 0) : (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by
      rcases (Nat.add_pos_iff_pos_or_pos.mp (show 0 < oweX c 0 g u + oweY c 0 g u from hg)) with h | h
      · obtain ⟨d, k, rfl⟩ := oweX_pos h; exact Finset.mem_singleton_self _
      · obtain ⟨d, k, rfl⟩ := oweY_pos h; exact Finset.mem_singleton_self _)
    (fun p hp => by rw [Finset.mem_singleton.mp hp]; exact h.le)
    (fun g u hg => by
      rcases (Nat.add_pos_iff_pos_or_pos.mp (show 0 < oweX c 0 g u + oweY c 0 g u from hg)) with h | h
      · obtain ⟨d, k, rfl⟩ := oweX_pos h; rw [lv_X]; decide
      · obtain ⟨d, k, rfl⟩ := oweY_pos h; rw [lv_Y]; decide)
/-- and any cell owing nothing. -/
theorem mayWait_none (c : Dev nD) (sm : SemLoc sig) : (levAts L lv : sProp 𝕄) ⊢ MayWait (c : Thread nD τ) sm () 0 := by
  rw [MayWait_zero]; iintro -; iempintro

end Cert.Proof

end
-- ==== Proof.Steps.lean ====
/-
  The rules of the body's steps: a local copy started and awaited, a block sent to another device, an arrival awaited
  (its cell's one round consumed, the cell closes), a store of one block, and seven of a step in a row.
-/
module

public import proofs.«01_k».proof.Proof.Protocol

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The body's weakest precondition on device `c`. -/
abbrev WP (c : Dev nD) (K : Pr F) (Q : PUnit → sProp 𝕄) : sProp 𝕄 :=
  wp frame (wpE (defs₀ (F := F)) 𝒱₀ (c : Thread nD τ) none) Set.univ K Q

/-- What a device owes, whatever it has waited on. -/
abbrev Owe (c : Dev nD) (O : CellTallies nD τ sig Unit) : sProp 𝕄 := iprop(∃ W, owes (c : Thread nD τ) O W)

/-- A local semaphore at zero. -/
abbrev zeroAt (c : Dev nD) (q : DmaSem sig) : sProp 𝕄 := semVal ((c : Thread nD τ), .dma q) 0

/-- Writing a view's elements gives any contents that read the same there. -/
theorem write_eq {sp : Space} {s : Shape} {e : EltTy} (v : View sig .tc sp s e) (f G : v.ref.ty.Contents (Elt F)) (w : s.Idx → Elt F e)
    (h : v.read (Elt F) G = w) : ∀ i ∈ v.set, v.write (Elt F) f w Finset.univ i = G i := by
  intro i hi
  obtain ⟨z, -, rfl⟩ := Finset.mem_map.mp hi
  rw [View.write_emb_of_mem _ _ (Finset.mem_univ z), ← h, View.read_apply]
  simp

/-- A local copy in flight on semaphore `q`: landing, it hands the destination at `G` and the source back. -/
abbrev Fly {sp sp' : Space} {s : Shape} {e : EltTy} (c : Dev nD) (q : DmaSem sig) (S : Memref sig .tc sp s e) (D : Memref sig .tc sp' s e)
    (fs : Buf (Elt F) (S.view.loc (c : Thread nD τ))) (G : Buf (Elt F) (D.view.loc (c : Thread nD τ))) : sProp 𝕄 :=
  Transfers.Flight EC (c : Thread nD τ) (.dma q) () D.view.dmaCredit iprop(at_ D c G ∗ at_ S c fs)

/-- A load, the view it goes through held. -/
theorem load_rule {cs : CoreSpace} {s : Shape} {e : EltTy} (c : Dev nD) (M : Memref sig .tc cs s e) (r : Rect s) (hl : M.view.LoadsAt r)
    (S : Finset (Idx (M.view.loc (c : Thread nD τ)))) (hS : (M.access r).set ⊆ S) (f : Buf (Elt F) (M.view.loc (c : Thread nD τ))) (v : r.shape.Idx → Elt F e)
    (hv : (M.access r).read (Elt F) f = v) (K : (r.shape.Idx → Elt F e) → Pr F) (Q : PUnit → sProp 𝕄) :
    (M.view.loc (c : Thread nD τ) ↦[S]{fullShare} f)
      ⊢ iprop(((M.view.loc (c : Thread nD τ) ↦[S]{fullShare} f) -∗ WP c (K v) Q) -∗ WP c (.op (.load M r hl) K) Q) := by
  subst hv
  exact wp_load_rect (defs := defs₀ (F := F)) 𝒱₀ (c : Thread nD τ) none Set.univ (m := M) (r := r) (hl := hl) (k := K) (Q := Q) (S := S) (f := f) hS

/-- A store, the view it goes through held; the contents it leaves. -/
theorem store_rule {cs : CoreSpace} {s : Shape} {e : EltTy} (c : Dev nD) (M : Memref sig .tc cs s e) (r : Rect s) (w : r.shape.Idx → Elt F e)
    (hx : (M.access r).Stores Finset.univ) (hm : (Finset.univ : Finset r.shape.Idx) = Finset.univ ∨ ∀ a, r.stride a = 1)
    (S : Finset (Idx (M.view.loc (c : Thread nD τ)))) (hS : (M.access r).set = S) (f G : Buf (Elt F) (M.view.loc (c : Thread nD τ)))
    (hG : (M.access r).read (Elt F) G = w) (K : Pr F) (Q : PUnit → sProp 𝕄) :
    (M.view.loc (c : Thread nD τ) ↦[S]{fullShare} f)
      ⊢ iprop(((M.view.loc (c : Thread nD τ) ↦[S]{fullShare} G) -∗ WP c K Q) -∗ WP c (.op (.store M r w Finset.univ hx hm) fun _ => K) Q) := by
  have he : ((M.access r).loc (c : Thread nD τ) ↦[S]{fullShare} (M.access r).write (Elt F) f w Finset.univ : sProp 𝕄) = (M.view.loc (c : Thread nD τ) ↦[S]{fullShare} G) :=
    pointsTo_congr fun i hi => write_eq (M.access r) f G w hG i (hS ▸ hi)
  have h : ((M.access r).loc (c : Thread nD τ) ↦[S]{fullShare} f) ⊢ iprop((((M.access r).loc (c : Thread nD τ) ↦[S]{fullShare} (M.access r).write (Elt F) f w Finset.univ) -∗ WP c K Q)
      -∗ WP c (.op (.store M r w Finset.univ hx hm) fun _ => K) Q) := wp_store (defs := defs₀ (F := F)) 𝒱₀ (c : Thread nD τ) none Set.univ (m := M) (r := r) (w := w) (Mk := Finset.univ) (hx := hx) (hm := hm) (k := fun _ => K) (Q := Q) (S := S) (f := f)
    (by rw [View.setOn_univ]; exact hS.subset)
  rw [he] at h
  exact h

/-- Starting a local copy. -/
theorem copy_rule {sp sp' : Space} {s : Shape} {e : EltTy} (c : Dev nD) (q : DmaSem sig) (S : Memref sig .tc sp s e) (D : Memref sig .tc sp' s e)
    (hs : S.view.WordExact) (hd : D.view.WordExact) (ht : DmaTarget.Typed (nD := nD) (τ := τ) (p := (c : Thread nD τ).2) sp (.dma q) (.here D))
    (hpos : 0 < D.view.dmaCredit)
    (fs : Buf (Elt F) (S.view.loc (c : Thread nD τ))) (G : Buf (Elt F) (D.view.loc (c : Thread nD τ)))
    (hG : D.view.read (Elt F) G = S.view.read (Elt F) fs) (K : Pr F) (Q : PUnit → sProp 𝕄) :
    iprop(at_ S c fs ∗ any (F := F) D c ∗ zeroAt c q)
      ⊢ iprop((Fly c q S D fs G -∗ WP c K Q) -∗ WP c (.op (.enqueueDma S (.here D) (.dma q) hs hd ht) fun _ => K) Q) := by
  iintro ⟨HS, ⟨%fd, HD⟩, Hz⟩ Hk
  have he : (D.view.loc (c : Thread nD τ) ↦[D.view.set]{fullShare} D.view.write (Elt F) fd (S.view.read (Elt F) fs) Finset.univ : sProp 𝕄) = at_ D c G :=
    pointsTo_congr (write_eq D.view fd G _ hG)
  have h := Transfers.wp_dmaLocal (src := S) (dst := D) (sm := .dma q) (via := .same) (hsrc := hs) (hdst := hd) (hsem := ht) EC (defs := defs₀ (F := F)) 𝒱₀ (c : Thread nD τ) none () D.view.dmaCredit (rfl : D.view.amount (.dma q) = _) hpos
    (Finset.Subset.refl _) (q := fullShare) (fs := fs) (fd := fd) (Q := Q) (k := fun _ => K)
  iapply h $$ [HS HD Hz]
  · isplitl [HS]; · iexact HS
    isplitl [HD]; · iexact HD
    iexact Hz
  iintro HF
  iapply Hk
  iapply (Entails.of_eq (congrArg (fun P : sProp 𝕄 => Transfers.Flight EC (c : Thread nD τ) (.dma q) () D.view.dmaCredit iprop(P ∗ at_ S c fs)) he))
  iexact HF

/-- Awaiting it. -/
theorem await_rule {sp sp' spw : Space} {s sw : Shape} {e ew : EltTy} (c : Dev nD) (q : DmaSem sig) (S : Memref sig .tc sp s e) (D : Memref sig .tc sp' s e)
    (Sw : Memref sig .tc spw sw ew) (hs : Sw.view.WordExact) (hd : D.view.WordExact)
    (fs : Buf (Elt F) (S.view.loc (c : Thread nD τ))) (G : Buf (Elt F) (D.view.loc (c : Thread nD τ))) (O : CellTallies nD τ sig Unit)
    (hO : (levAts L lv : sProp 𝕄) ⊢ MayWait (c : Thread nD τ) (.dma q) () O) (K : Pr F) (Q : PUnit → sProp 𝕄) :
    iprop(levAts L lv ∗ Fly c q S D fs G ∗ Owe c O)
      ⊢ iprop(((at_ D c G ∗ at_ S c fs ∗ zeroAt c q ∗ Owe c O) -∗ WP c K Q) -∗ WP c (.op (.waitDma2 q Sw D hs hd) fun _ => K) Q) := by
  iintro ⟨#Hlev, HF, ⟨%W, HO⟩⟩ Hk
  have h := Transfers.wp_waitLocalO EC (defs := defs₀ (F := F)) 𝒱₀ (c : Thread nD τ) none () (rfl : D.view.dmaCredit = _)
    (sem := q) (srcw := Sw) (dstw := D) (hsrc := hs) (hdst := hd) (O := O) (W := W) (D := iprop(at_ D c G ∗ at_ S c fs)) (k := fun _ => K) (Q := Q)
  iapply h $$ [HF HO]
  · isplitl [HF]; · iexact HF
    isplitl [HO]; · iexact HO
    iapply hO; iexact Hlev
  iintro ⟨⟨HD, HS⟩, Hz, HO⟩
  iapply Hk
  isplitl [HD]; · iexact HD
  isplitl [HS]; · iexact HS
  isplitl [Hz]; · iexact Hz
  iexists _; iexact HO

/-- What a device needs to await one remote copy's cell. -/
abbrev Cell (c : Dev nD) (i : Fin 4) (j : Fin 7) : sProp 𝕄 :=
  iprop((∃ κ, cellInv ER (sched m) κ (cell c i j)) ∗ atPos ER (cell c i j) 0 ∅ 0)

/-- Awaiting a remote copy's cell: its payload, and its counter at zero again. -/
theorem arrive_rule {sp spw : Space} {s sw : Shape} {e ew : EltTy} (c : Dev nD) (i : Fin 4) (j : Fin 7) (D : Memref sig .tc sp s e)
    (Sw : Memref sig .tc spw sw ew) (hs : Sw.view.WordExact) (hd : D.view.WordExact) (hN : D.view.dmaCredit = N) (O : CellTallies nD τ sig Unit)
    (hO : (levAts L lv : sProp 𝕄) ⊢ MayWait (c : Thread nD τ) (.dma (dmaR i j)) () O) (K : Pr F) (Q : PUnit → sProp 𝕄) :
    iprop(levAts L lv ∗ Cell m c i j ∗ cred (tallyAt (cell c i j) () N) ∗ Owe c O)
      ⊢ iprop(((pay m c i j ∗ zeroAt c (dmaR i j) ∗ Owe c O) -∗ WP c K Q) -∗ WP c (.op (.waitDma2 (dmaR i j) Sw D hs hd) fun _ => K) Q) := by
  iintro ⟨#Hlev, ⟨⟨%κ, #HI⟩, Hat⟩, Hc, ⟨%W, HO⟩⟩ Hk
  iapply (Rounds.wp_wait_rest_token 𝒱₀ ER (sched m) (c : Thread nD τ) none (κ := κ)
      (wpE_waitDma2_eq 𝒱₀ (c : Thread nD τ) none Set.univ) (Set.mem_univ _) () (O := O) (W := W) (R := 0) (m := 0) (T := ∅)
      (by rw [Nat.zero_add, expect_cell, hN])) $$ [Hc HO Hat]
  · isplitr; · iexact HI
    isplitl [Hc]; · rw [hN]; iexact Hc
    isplitl [HO]; · iexact HO
    isplitr; · iapply hO; iexact Hlev
    iexact Hat
  iintro ⟨HO, Hat, -, Hpay⟩
  ihave Hp := (Entails.of_eq (rest_cell m c i j)) $$ Hpay
  imod (Rounds.cell_close ER (sched m) (Set.mem_univ κ) (fun h => h) (R := 0 + 1) (duties_later m (cell c i j))) $$ [Hat] with Hz
  · isplitr; · iexact HI
    iexact Hat
  iapply Hk
  isplitl [Hp]; · iexact Hp
  isplitl [Hz]; · iexact Hz
  iexists _; iexact HO

/-- What a device needs to send: its own cell's and the other's duties, and that both are at their round. -/
abbrev Send (c : Dev nD) (i i' : Fin 4) (k : Fin 7) : sProp 𝕄 :=
  iprop((∃ κ, cellInv ER (sched m) κ (cell c i k)) ∗ (∃ κ, cellInv ER (sched m) κ (cell (fwd c (up k)) i' k))
    ∗ dutyTok ER (cell c i k) 0 () ∗ reached ER (cell c i k) 0
    ∗ dutyTok ER (cell (fwd c (up k)) i' k) 0 () ∗ reached ER (cell (fwd c (up k)) i' k) 0)

/-- Sending a block to the device `1 + k` further. -/
theorem send_rule {sp sp' : Space} {s : Shape} {e : EltTy} (c : Dev nD) (i i' : Fin 4) (k : Fin 7) (n : Dev nD) (hn : n = fwd c (up k))
    (S : Memref sig .tc sp s e) (D : Memref sig .tc sp' s e)
    (hsc : (D : Memref sig (Dev.tc n : Thread nD τ).2.kind sp' s e).view.ref.isScScratch = false)
    (hs : S.view.WordExact) (hd : D.view.WordExact) (ht : DmaTarget.Typed sp (.dma (dmaR i' k)) (.remote (Dev.tc n : Thread nD τ) D (.dma (dmaR i k)) hsc))
    (hN : D.view.dmaCredit = N)
    (fs : Buf (Elt F) (S.view.loc (c : Thread nD τ))) (G : Buf (Elt F) (D.view.loc (fwd c (up k) : Thread nD τ)))
    (hG : D.view.read (Elt F) G = S.view.read (Elt F) fs)
    (hp : at_ S c fs ⊢ pay m c i k) (hp' : at_ D (fwd c (up k)) G ⊢ pay m (fwd c (up k)) i' k)
    (O O' : CellTallies nD τ sig Unit) (hO : O = O' + tallyAt (cell (fwd c (up k)) i' k) () N) (K : Pr F) (Q : PUnit → sProp 𝕄) :
    iprop(at_ S c fs ∗ any (F := F) D (fwd c (up k)) ∗ Send m c i i' k ∗ Owe c O)
      ⊢ iprop(((cred (tallyAt (cell c i k) () N) ∗ Owe c O') -∗ WP c K Q)
          -∗ WP c (.op (.enqueueDma S (.remote (Dev.tc n : Thread nD τ) D (.dma (dmaR i k)) hsc) (.dma (dmaR i' k)) hs hd ht) fun _ => K) Q) := by
  subst hn
  iintro ⟨HS, ⟨%fd, HD⟩, ⟨⟨%κ, #HI⟩, ⟨%κ', #HI'⟩, Ht, #Hr, Ht', #Hr'⟩, ⟨%W, HO⟩⟩ Hk
  have he : (D.view.loc (fwd c (up k) : Thread nD τ) ↦[D.view.set]{fullShare} D.view.write (Elt F) fd (S.view.read (Elt F) fs) Finset.univ : sProp 𝕄) = at_ D (fwd c (up k)) G :=
    pointsTo_congr (write_eq D.view fd G _ hG)
  iapply (Rounds.wp_send_pointsTo 𝒱₀ ER (sched m) (c : Thread nD τ) none (κ₁ := κ) (κ₂ := κ')
    (r₁ := 0) (r₂ := 0) (d₁ := ()) (d₂ := ()) (fs := fs) (fd := fd) (src := S) (c' := (fwd c (up k) : Thread nD τ)) (dst := (D : Memref sig (Dev.tc (fwd c (up k)) : Thread nD τ).2.kind sp' s e))
    (hsc := hsc) (hsrc := hs) (hdst := hd) (hsem := ht) (sem := .dma (dmaR i' k)) (sS := .dma (dmaR i k))
    (by rw [duties_cell]; exact Finset.mem_singleton_self _) (by rw [duties_cell]; exact Finset.mem_singleton_self _)
    () () N hN rfl rfl O' hO (W := W)
    (by rw [payload_cell]; exact hp)
    (by rw [payload_cell]; exact (Entails.of_eq he).trans hp')) $$ [HS HD HO Ht Ht']
  · isplitr; · iexact HI
    isplitr; · iexact HI'
    isplitl [HS]; · iexact HS
    isplitl [HD]; · iexact HD
    isplitl [HO]; · iexact HO
    isplitl [Ht]; · iexact Ht
    isplitr; · iexact Hr
    isplitl [Ht']; · iexact Ht'
    iexact Hr'
  iintro ⟨Hc, HO⟩
  iapply Hk
  isplitl [Hc]; · iexact Hc
  iexists _; iexact HO

/-- Seven of a step, in order, each with its own resources and the running one. -/
theorem seven_rule (c : Dev nD) (step : Fin 7 → Pr F → Pr F) (A : ℕ → sProp 𝕄) (R R' : Fin 7 → sProp 𝕄) (Q : PUnit → sProp 𝕄)
    (h : ∀ (k : Fin 7) (K : Pr F), iprop(A k.val ∗ R k) ⊢ iprop((A (k.val + 1) ∗ R' k -∗ WP c K Q) -∗ WP c (step k K) Q)) (K : Pr F) :
    iprop(A 0 ∗ bigSep Finset.univ R) ⊢ iprop((A 7 ∗ bigSep Finset.univ R' -∗ WP c K Q) -∗ WP c (seven step K) Q) := by
  have e (P : Fin 7 → sProp 𝕄) : bigSep Finset.univ P = iprop(P 0 ∗ P 1 ∗ P 2 ∗ P 3 ∗ P 4 ∗ P 5 ∗ P 6) :=
    bigSep_univ_eq_bigSepL [0, 1, 2, 3, 4, 5, 6] (by decide) (by decide) P
  rw [e, e]
  have h' (k : Fin 7) (n : ℕ) (hn : k.val = n) (K : Pr F) : iprop(A n ∗ R k) ⊢ iprop((A (n + 1) ∗ R' k -∗ WP c K Q) -∗ WP c (step k K) Q) := by
    subst hn; exact h k K
  iintro ⟨HA, H0, H1, H2, H3, H4, H5, H6⟩ Hk
  iapply (h' 0 0 rfl _) $$ [HA H0]; · isplitl [HA] <;> iassumption
  iintro ⟨HA, G0⟩
  iapply (h' 1 1 rfl _) $$ [HA H1]; · isplitl [HA] <;> iassumption
  iintro ⟨HA, G1⟩
  iapply (h' 2 2 rfl _) $$ [HA H2]; · isplitl [HA] <;> iassumption
  iintro ⟨HA, G2⟩
  iapply (h' 3 3 rfl _) $$ [HA H3]; · isplitl [HA] <;> iassumption
  iintro ⟨HA, G3⟩
  iapply (h' 4 4 rfl _) $$ [HA H4]; · isplitl [HA] <;> iassumption
  iintro ⟨HA, G4⟩
  iapply (h' 5 5 rfl _) $$ [HA H5]; · isplitl [HA] <;> iassumption
  iintro ⟨HA, G5⟩
  iapply (h' 6 6 rfl _) $$ [HA H6]; · isplitl [HA] <;> iassumption
  iintro ⟨HA, G6⟩
  iapply Hk
  isplitl [HA]; · iexact HA
  isplitl [G0]; · iexact G0
  isplitl [G1]; · iexact G1
  isplitl [G2]; · iexact G2
  isplitl [G3]; · iexact G3
  isplitl [G4]; · iexact G4
  isplitl [G5]; · iexact G5
  iexact G6

end Cert.Proof

end
-- ==== Proof.Stretch.lean ====
/-
  The body's stretches, one rule each, at any device: what the stretch takes, what it leaves, and the contents it leaves it at.
-/
module

public import proofs.«01_k».proof.Proof.Steps

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What the views read -/

/-- Back from the device `j` further is the device itself. -/
theorem bwd_fwd (c : Dev nD) (j : Fin 8) : bwd (fwd c j) j = c :=
  Fin.ext (by have h : c.val < 8 := c.isLt; have := j.isLt; show ((c.val + j.val) % 8 + 8 - j.val) % 8 = c.val; omega)
/-- The device `j` further than `c`, less `c`, is `j`. -/
theorem bwd_dev (c : Dev nD) (j : Fin 8) : (bwd (fwd c j) (c : Fin 8) : Fin 8) = j :=
  Fin.ext (by have h : c.val < 8 := c.isLt; have := j.isLt; show ((c.val + j.val) % 8 + 8 - c.val) % 8 = j.val; omega)
/-- A device's number less itself is zero. -/
theorem bwd_self (c : Dev nD) : (bwd c (c : Fin 8) : Fin 8) = 0 :=
  Fin.ext (by have h : c.val < 8 := c.isLt; show (c.val + 8 - c.val) % 8 = 0; omega)

/-- A row, read at an index. -/
theorem read_row {sp : Space} (M : Memref sig .tc sp S8x1024x1024 .bf16) (k : Fin 8) (f : M.view.ref.ty.Contents (Elt F)) (a b : Fin 1024) :
    (row M k).view.read (Elt F) f (ix2 a b) = M.view.read (Elt F) f (ix3 k a b) := by
  rw [View.read_apply, View.read_apply, row_emb]
/-- An access of a row, read at an index. -/
theorem read_rowAcc {sp : Space} (M : Memref sig .tc sp S8x1024x1024 .bf16) (k : Fin 8) (f : M.view.ref.ty.Contents (Elt F)) (z : Fin 1) (a b : Fin 1024) :
    (M.access (rRow k)).read (Elt F) f (ix3 z a b) = M.view.read (Elt F) f (ix3 k a b) := by
  rw [View.read_apply, View.read_apply, rowAcc_emb]
/-- An expert's rows, read at an index. -/
theorem read_col (M : Memref sig .tc .hbm S8x1024x1024 .bf16) (s : Fin 8) (f : M.view.ref.ty.Contents (Elt F)) (d : Fin 8) (p : Fin 128) (h : Fin 1024) :
    (col M s).view.read (Elt F) f (ix3 d p h) = M.view.read (Elt F) f (ix3 d (row128 s p) h) := by
  rw [View.read_apply, View.read_apply, col_emb]
/-- A half of the weights' double buffer, read at an index. -/
theorem read_half3 (M : Memref sig .tc .vmem S2x1024x1024 .bf16) (b : Fin 2) (f : M.view.ref.ty.Contents (Elt F)) (i h : Fin 1024) :
    (half3 M b).view.read (Elt F) f (ix2 i h) = M.view.read (Elt F) f (ix3 b i h) := by
  rw [View.read_apply, View.read_apply, half3_emb]
/-- A half of a row double buffer, read at an index. -/
theorem read_half4 (M : Memref sig .tc .vmem S2x8x128x1024 .bf16) (b : Fin 2) (f : M.view.ref.ty.Contents (Elt F)) (d : Fin 8) (p : Fin 128) (h : Fin 1024) :
    (half4 M b).view.read (Elt F) f (ix3 d p h) = M.view.read (Elt F) f (ix4 b d p h) := by
  rw [View.read_apply, View.read_apply, half4_emb]
/-- A load of a half of the weights' double buffer, at an index. -/
theorem read_half3Acc (M : Memref sig .tc .vmem S2x1024x1024 .bf16) (b : Fin 2) (f : M.view.ref.ty.Contents (Elt F)) (z : Fin 1) (i h : Fin 1024) :
    (M.access (rH3 b)).read (Elt F) f (ix3 z i h) = M.view.read (Elt F) f (ix3 b i h) := by
  rw [View.read_apply, View.read_apply, half3Acc_emb]
/-- An access of a half of a row double buffer, at an index. -/
theorem read_half4Acc (M : Memref sig .tc .vmem S2x8x128x1024 .bf16) (b : Fin 2) (f : M.view.ref.ty.Contents (Elt F)) (z : Fin 1) (d : Fin 8) (p : Fin 128) (h : Fin 1024) :
    (M.access (rH4 b)).read (Elt F) f (ix4 z d p h) = M.view.read (Elt F) f (ix4 b d p h) := by
  rw [View.read_apply, View.read_apply, half4Acc_emb]

/-- Functions of a matrix's, of a block's index agree when they do at each coordinate. -/
theorem ext2 {A : Type} {f g : S1024x1024.Idx → A} (h : ∀ a b : Fin 1024, f (ix2 a b) = g (ix2 a b)) : f = g :=
  funext fun z => by rw [eq_ix2 z]; exact h _ _
/-- Two blocks of an expert's rows that agree at every index are equal. -/
theorem ext3 {A : Type} {f g : S8x128x1024.Idx → A} (h : ∀ (d : Fin 8) (p : Fin 128) (a : Fin 1024), f (ix3 d p a) = g (ix3 d p a)) : f = g :=
  funext fun z => by rw [eq_ix3 z]; exact h _ _ _
/-- Two single blocks that agree at every index are equal. -/
theorem ext13 {A : Type} {f g : S1x1024x1024.Idx → A} (h : ∀ a b : Fin 1024, f (ix3 (0 : Fin 1) a b) = g (ix3 (0 : Fin 1) a b)) : f = g :=
  funext fun z => by
    have hz : z = ix3 (0 : Fin 1) (z 1 : Fin 1024) (z 2 : Fin 1024) := (eq_ix3 z).trans (congrArg (fun a : Fin 1 => ix3 a (z 1 : Fin 1024) (z 2 : Fin 1024)) (Subsingleton.elim _ _))
    rw [hz]; exact h _ _
/-- Two single blocks of an expert's rows that agree at every index are equal. -/
theorem ext14 {A : Type} {f g : S1x8x128x1024.Idx → A}
    (h : ∀ (d : Fin 8) (p : Fin 128) (a : Fin 1024), f (ix4 (0 : Fin 1) d p a) = g (ix4 (0 : Fin 1) d p a)) : f = g :=
  funext fun z => by
    have hz : z = ix4 (0 : Fin 1) (z 1 : Fin 8) (z 2 : Fin 128) (z 3 : Fin 1024) :=
      (eq_ix4 z).trans (congrArg (fun a : Fin 1 => ix4 a (z 1 : Fin 8) (z 2 : Fin 128) (z 3 : Fin 1024)) (Subsingleton.elim _ _))
    rw [hz]; exact h _ _ _

/-- The block received is the block sent; -/
theorem XR_read (c : Dev nD) (j : Fin 8) : (row bXr c).view.read (Elt F) (XR m (fwd c j)) = (row bXs j).view.read (Elt F) (XS m c) :=
  ext2 fun a b => (read_row bXr c (XR m (fwd c j)) a b).trans <|
    (congrArg (fun i : Fin 8 => XS m c (ix3 i a b)) (bwd_dev c j)).trans (read_row bXs j (XS m c) a b).symm
/-- A device's own row among those received is the first block it sends. -/
theorem XR_read_self (c : Dev nD) : (row bXr c).view.read (Elt F) (XR m c) = (row bXs 0).view.read (Elt F) (XS m c) :=
  ext2 fun a b => (read_row bXr c (XR m c) a b).trans <|
    (congrArg (fun i : Fin 8 => XS m c (ix3 i a b)) (bwd_self c)).trans (read_row bXs 0 (XS m c) a b).symm
/-- the block come back the block given back; -/
theorem YR_read (c d : Dev nD) : (row bYr c).view.read (Elt F) (YR m d) = (row bYs d).view.read (Elt F) (YS m c) :=
  ext2 fun a b => (read_row bYr c (YR m d) a b).trans (read_row bYs d (YS m c) a b).symm
/-- what an expert's copies bring; -/
theorem XA_read (c : Dev nD) (s : Fin 8) (b : Fin 2) : (half4 bXa b).view.read (Elt F) (XA m c s) = (col bXr s).view.read (Elt F) (XR m c) :=
  ext3 fun d p a => (read_half4 bXa b (XA m c s) d p a).trans (read_col bXr s (XR m c) d p a).symm
/-- A half of the weights' double buffer holds the expert's weights. -/
theorem WB_read (c : Dev nD) (s : Fin 8) (b : Fin 2) : (half3 bW b).view.read (Elt F) (WB m c s) = (row bEw s).view.read (Elt F) (ewIn m c) :=
  ext2 fun i h => (read_half3 bW b (WB m c s) i h).trans (read_row bEw s (ewIn m c) i h).symm
/-- An expert's rows to give back are the products in the half. -/
theorem YS_read (c : Dev nD) (s : Fin 8) (b : Fin 2) : (col bYs s).view.read (Elt F) (YS m c) = (half4 bYa b).view.read (Elt F) (YA m c s) :=
  ext3 fun d p a => (read_col bYs s (YS m c) d p a).trans <|
    (congrArg (fun i : Fin 8 => YA m c i (ix4 (0 : Fin 2) d (pos128 (row128 s p)) a)) (exp128_row s p)).trans <|
    (congrArg (fun i : Fin 128 => YA m c s (ix4 (0 : Fin 2) d i a)) (pos128_row s p)).trans (read_half4 bYa b (YA m c s) d p a).symm
/-- what the loads and the stores see. -/
theorem XS_acc (c : Dev nD) (k : Fin 8) : (bXs.access (rRow k)).read (Elt F) (XS m c) = payX c (xIn m c) (s0In m c) (s1In m c) k :=
  ext13 fun a b => read_rowAcc bXs k (XS m c) 0 a b
/-- The expert's rows, as a load of the half reads them. -/
theorem XA_acc (c : Dev nD) (s : Fin 8) (b : Fin 2) :
    (bXa.access (rH4 b)).read (Elt F) (XA m c s) = fun z : S1x8x128x1024.Idx => XA m c s (ix4 (0 : Fin 2) (z 1 : Fin 8) (z 2 : Fin 128) (z 3 : Fin 1024)) :=
  ext14 fun d p a => read_half4Acc bXa b (XA m c s) 0 d p a
/-- The expert's weights, as a load of the half reads them. -/
theorem WB_acc (c : Dev nD) (s : Fin 8) (b : Fin 2) :
    (bW.access (rH3 b)).read (Elt F) (WB m c s) = fun z : S1x1024x1024.Idx => WB m c s (ix3 (0 : Fin 2) (z 1 : Fin 1024) (z 2 : Fin 1024)) :=
  ext13 fun i h => read_half3Acc bW b (WB m c s) 0 i h
/-- The expert's products, as the access of the half reads them, are the product of the two loads. -/
theorem YA_acc (c : Dev nD) (s : Fin 8) (b : Fin 2) :
    (bYa.access (rH4 b)).read (Elt F) (YA m c s) = k0_pay16 (fun z : S1x8x128x1024.Idx => XA m c s (ix4 (0 : Fin 2) (z 1 : Fin 8) (z 2 : Fin 128) (z 3 : Fin 1024)))
      (fun z : S1x1024x1024.Idx => WB m c s (ix3 (0 : Fin 2) (z 1 : Fin 1024) (z 2 : Fin 1024))) :=
  ext14 fun d p a => read_half4Acc bYa b (YA m c s) 0 d p a

/-- The copy of the device's own block credits one block's units. -/
theorem credit_own {sp : Space} (M : Memref sig .tc sp S8x1024x1024 .bf16) (c : Dev nD) : (own M c).view.dmaCredit = N := rfl
/-- The copy of a row credits one block's units. -/
theorem credit_row {sp : Space} (M : Memref sig .tc sp S8x1024x1024 .bf16) (k : Fin 8) : (row M k).view.dmaCredit = N := rfl

/-! ## The exchange there -/

/-- Block `k` made. -/
theorem put_rule (c : Dev nD) (k : Fin 8) (K : Pr F) (Q : PUnit → sProp 𝕄) :
    any (F := F) (row bXs k) c ⊢ iprop((at_ (row bXs k) c (XS m c) -∗ WP c K Q) -∗ WP c (put c (xIn m c) (s0In m c) (s1In m c) k K) Q) := by
  unfold put
  iintro ⟨%f, H⟩ Hk
  iapply (load_rule c bXs (rRow k) _ (row bXs k).view.set (row_set bXs k).symm.subset f _ rfl _ Q) $$ H
  iintro H
  iapply (store_rule c bXs (rRow k) (payX c (xIn m c) (s0In m c) (s1In m c) k) _ _ (row bXs k).view.set (row_set bXs k).symm f (XS m c) (XS_acc m c k) _ Q) $$ H
  iexact Hk

/-- The device's own block kept. -/
theorem keep_rule (c : Dev nD) (K : Pr F) (Q : PUnit → sProp 𝕄) :
    iprop(at_ (row bXs 0) c (XS m c) ∗ any (F := F) (row bXr c) c ∗ zeroAt c (dmaL 0))
      ⊢ iprop((Fly c (dmaL 0) (row bXs 0) (row bXr c) (XS m c) (XR m c) -∗ WP c K Q) -∗ WP c (keep c K) Q) := by
  have key (D) (hD : D = row bXr c) (hs hd ht) : iprop(at_ (row bXs 0) c (XS m c) ∗ any (F := F) (row bXr c) c ∗ zeroAt c (dmaL 0))
      ⊢ iprop((Fly c (dmaL 0) (row bXs 0) (row bXr c) (XS m c) (XR m c) -∗ WP c K Q)
        -∗ WP c (.op (.enqueueDma (row bXs 0) (.here D) (.dma (dmaL 0)) hs hd ht) fun _ => K) Q) := by
    subst hD
    exact copy_rule c (dmaL 0) (row bXs 0) (row bXr c) hs hd ht N_pos _ _ (XR_read_self m c) K Q
  exact key _ (own_eq bXr c) _ _ _

/-- The wait for the local copy of the dispatch: the device's own block has arrived. -/
theorem kept_rule (c : Dev nD) (O : CellTallies nD τ sig Unit)
    (hO : (levAts L lv : sProp 𝕄) ⊢ MayWait (c : Thread nD τ) (.dma (dmaL 0)) () O) (K : Pr F) (Q : PUnit → sProp 𝕄) :
    iprop(levAts L lv ∗ Fly c (dmaL 0) (row bXs 0) (row bXr c) (XS m c) (XR m c) ∗ Owe c O)
      ⊢ iprop(((at_ (row bXr c) c (XR m c) ∗ at_ (row bXs 0) c (XS m c) ∗ zeroAt c (dmaL 0) ∗ Owe c O) -∗ WP c K Q) -∗ WP c (kept c K) Q) := by
  have key (D) (hD : D = row bXr c) (hs hd) : iprop(levAts L lv ∗ Fly c (dmaL 0) (row bXs 0) (row bXr c) (XS m c) (XR m c) ∗ Owe c O)
      ⊢ iprop(((at_ (row bXr c) c (XR m c) ∗ at_ (row bXs 0) c (XS m c) ∗ zeroAt c (dmaL 0) ∗ Owe c O) -∗ WP c K Q)
        -∗ WP c (.op (.waitDma2 (dmaL 0) (row bXs 0) D hs hd) fun _ => K) Q) := by
    subst hD
    exact await_rule c (dmaL 0) (row bXs 0) (row bXr c) _ hs hd _ _ O hO K Q
  exact key _ (own_eq bXr c) _ _

/-- Block `1 + k` made and sent. -/
theorem dispatch_rule (c : Dev nD) (R : CellTallies nD τ sig Unit) (k : Fin 7) (K : Pr F) (Q : PUnit → sProp 𝕄) :
    iprop(Owe (F := F) c (oweX c k.val + R) ∗ any (F := F) (row bXs (up k)) c ∗ any (F := F) (row bXr c) (fwd c (up k)) ∗ Send m c 0 1 k)
      ⊢ iprop((Owe (F := F) c (oweX c (k.val + 1) + R) ∗ cred (tallyAt (cell c 0 k) () N) -∗ WP c K Q)
        -∗ WP c (dispatch c (xIn m c) (s0In m c) (s1In m c) k K) Q) := by
  have key (D) (hD : D = row bXr c) (hsc hs hd ht) (O O') (hO : O = O' + tallyAt (cell (fwd c (up k)) 1 k) () N) :
      iprop(at_ (row bXs (up k)) c (XS m c) ∗ any (F := F) (row bXr c) (fwd c (up k)) ∗ Send m c 0 1 k ∗ Owe c O)
      ⊢ iprop(((cred (tallyAt (cell c 0 k) () N) ∗ Owe c O') -∗ WP c K Q)
          -∗ WP c (.op (.enqueueDma (row bXs (up k)) (.remote (Dev.tc (devA c k) : Thread nD τ) D (.dma (dmaR 0 k)) hsc) (.dma (dmaR 1 k)) hs hd ht) fun _ => K) Q) := by
    subst hD
    exact send_rule m c 0 1 k (devA c k) (devA_eq c k) (row bXs (up k)) (row bXr c) hsc hs hd ht rfl (XS m c) (XR m (fwd c (up k))) (XR_read m c (up k))
      (by unfold pay; rw [if_pos rfl]; iintro H; iexists _; iexact H)
      (by unfold pay; rw [if_neg (by decide), if_pos rfl, bwd_fwd]) O O' hO K Q
  unfold dispatch send
  iintro ⟨HO, Hb, Hd, Hs⟩ Hk
  iapply (put_rule m c (up k) _ Q) $$ Hb
  iintro Hb
  iapply (key _ (own_eq bXr c) _ _ _ _ (oweX c k.val + R) (oweX c (k.val + 1) + R) (by rw [oweX_step, add_right_comm])) $$ [HO Hb Hd Hs]
  · isplitl [Hb]; · iexact Hb
    isplitl [Hd]; · iexact Hd
    isplitl [Hs]; · iexact Hs
    iexact HO
  iintro ⟨Hc, HO⟩
  iapply Hk
  isplitl [HO]; · iexact HO
  iexact Hc

/-- Block `1 + k`'s arrival. -/
theorem receive_rule (c : Dev nD) (n : ℕ) (k : Fin 7) (K : Pr F) (Q : PUnit → sProp 𝕄) :
    iprop((levAts L lv ∗ Owe c (oweY c n)) ∗ Cell m c 1 k ∗ cred (tallyAt (cell c 1 k) () N))
      ⊢ iprop(((levAts L lv ∗ Owe c (oweY c n)) ∗ at_ (row bXr (bwd c (up k))) c (XR m c) ∗ zeroAt c (dmaR 1 k) -∗ WP c K Q) -∗ WP c (receive c k K) Q) := by
  unfold receive
  iintro ⟨⟨#Hlev, HO⟩, HC, Hc⟩ Hk
  iapply (arrive_rule m c 1 k (own bXr c) (row bXs (up k)) _ _ (credit_own bXr c) (oweY c n) (mayWait_Y c _ (by revert k; decide) n) K Q) $$ [HO HC Hc]
  · isplitr; · iexact Hlev
    isplitl [HC]; · iexact HC
    isplitl [Hc]; · iexact Hc
    iexact HO
  iintro ⟨Hp, Hz, HO⟩
  iapply Hk
  isplitl [HO]
  · isplitr; · iexact Hlev
    iexact HO
  isplitl [Hp]
  · iapply (Entails.of_eq (show pay m c 1 k = at_ (row bXr (bwd c (up k))) c (XR m c) by unfold pay; rw [if_neg (by decide), if_pos rfl])) $$ Hp
  iexact Hz

/-! ## The exchange back -/

/-- Block `1 + k` given back. -/
theorem giveBack_rule (c : Dev nD) (k : Fin 7) (K : Pr F) (Q : PUnit → sProp 𝕄) :
    iprop(Owe (F := F) c (oweY c k.val) ∗ at_ (row bYs (fwd c (up k))) c (YS m c) ∗ any (F := F) (row bYr c) (fwd c (up k)) ∗ Send m c 2 3 k)
      ⊢ iprop((Owe (F := F) c (oweY c (k.val + 1)) ∗ cred (tallyAt (cell c 2 k) () N) -∗ WP c K Q) -∗ WP c (giveBack c k K) Q) := by
  have key (S D) (hS : S = row bYs (fwd c (up k))) (hD : D = row bYr c) (hsc hs hd ht) :
      iprop(at_ (row bYs (fwd c (up k))) c (YS m c) ∗ any (F := F) (row bYr c) (fwd c (up k)) ∗ Send m c 2 3 k ∗ Owe c (oweY c k.val))
      ⊢ iprop(((cred (tallyAt (cell c 2 k) () N) ∗ Owe c (oweY c (k.val + 1))) -∗ WP c K Q)
          -∗ WP c (.op (.enqueueDma S (.remote (Dev.tc (devA c k) : Thread nD τ) D (.dma (dmaR 2 k)) hsc) (.dma (dmaR 3 k)) hs hd ht) fun _ => K) Q) := by
    subst hS hD
    exact send_rule m c 2 3 k (devA c k) (devA_eq c k) (row bYs (fwd c (up k))) (row bYr c) hsc hs hd ht rfl (YS m c) (YR m (fwd c (up k))) (YR_read m c _)
      (by unfold pay; rw [if_neg (by decide), if_neg (by decide), if_neg (by decide)]; iintro -; iempintro)
      (by unfold pay; rw [if_neg (by decide), if_neg (by decide), if_pos rfl, bwd_fwd]) _ _ (oweY_step c k) K Q
  unfold giveBack
  iintro ⟨HO, Hb, Hd, Hs⟩ Hk
  iapply (key _ _ (ahead_eq bYs c k) (own_eq bYr c) _ _ _ _) $$ [HO Hb Hd Hs]
  · isplitl [Hb]; · iexact Hb
    isplitl [Hd]; · iexact Hd
    isplitl [Hs]; · iexact Hs
    iexact HO
  iintro ⟨Hc, HO⟩
  iapply Hk
  isplitl [HO]; · iexact HO
  iexact Hc

/-- The start of the local copy of the return. -/
theorem keepY_rule (c : Dev nD) (K : Pr F) (Q : PUnit → sProp 𝕄) :
    iprop(at_ (row bYs c) c (YS m c) ∗ any (F := F) (row bYr c) c ∗ zeroAt c (dmaL 0))
      ⊢ iprop((Fly c (dmaL 0) (row bYs c) (row bYr c) (YS m c) (YR m c) -∗ WP c K Q) -∗ WP c (keepY c K) Q) := by
  have key (S D) (hS : S = row bYs c) (hD : D = row bYr c) (hs hd ht) : iprop(at_ (row bYs c) c (YS m c) ∗ any (F := F) (row bYr c) c ∗ zeroAt c (dmaL 0))
      ⊢ iprop((Fly c (dmaL 0) (row bYs c) (row bYr c) (YS m c) (YR m c) -∗ WP c K Q)
        -∗ WP c (.op (.enqueueDma S (.here D) (.dma (dmaL 0)) hs hd ht) fun _ => K) Q) := by
    subst hS hD
    exact copy_rule c (dmaL 0) (row bYs c) (row bYr c) hs hd ht N_pos _ _ (YR_read m c c) K Q
  exact key _ _ (own_eq bYs c) (own_eq bYr c) _ _ _

/-- The wait for the local copy of the return: the device's own products have arrived. -/
theorem keptY_rule (c : Dev nD) (O : CellTallies nD τ sig Unit)
    (hO : (levAts L lv : sProp 𝕄) ⊢ MayWait (c : Thread nD τ) (.dma (dmaL 0)) () O) (K : Pr F) (Q : PUnit → sProp 𝕄) :
    iprop(levAts L lv ∗ Fly c (dmaL 0) (row bYs c) (row bYr c) (YS m c) (YR m c) ∗ Owe c O)
      ⊢ iprop(((at_ (row bYr c) c (YR m c) ∗ at_ (row bYs c) c (YS m c) ∗ zeroAt c (dmaL 0) ∗ Owe c O) -∗ WP c K Q) -∗ WP c (keptY c K) Q) := by
  have key (S : Memref sig .tc .hbm S1024x1024 .bf16) (D) (hD : D = row bYr c) (hs : S.view.WordExact) (hd) : iprop(levAts L lv ∗ Fly c (dmaL 0) (row bYs c) (row bYr c) (YS m c) (YR m c) ∗ Owe c O)
      ⊢ iprop(((at_ (row bYr c) c (YR m c) ∗ at_ (row bYs c) c (YS m c) ∗ zeroAt c (dmaL 0) ∗ Owe c O) -∗ WP c K Q)
        -∗ WP c (.op (.waitDma2 (dmaL 0) S D hs hd) fun _ => K) Q) := by
    subst hD
    exact await_rule c (dmaL 0) (row bYs c) (row bYr c) S hs hd _ _ O hO K Q
  exact key (own bYs c) _ (own_eq bYr c) _ _

/-- The sends' own cells. -/
theorem sentX_rule (c : Dev nD) (k : Fin 7) (K : Pr F) (Q : PUnit → sProp 𝕄) :
    iprop((levAts L lv ∗ Owe c 0) ∗ Cell m c 0 k ∗ cred (tallyAt (cell c 0 k) () N))
      ⊢ iprop(((levAts L lv ∗ Owe c 0) ∗ any (F := F) (row bXs (up k)) c ∗ zeroAt c (dmaR 0 k) -∗ WP c K Q) -∗ WP c (sentX c k K) Q) := by
  unfold sentX
  iintro ⟨⟨#Hlev, HO⟩, HC, Hc⟩ Hk
  iapply (arrive_rule m c 0 k (row bXs (up k)) (own bXr c) _ _ (credit_row bXs (up k)) 0 (mayWait_none c _) K Q) $$ [HO HC Hc]
  · isplitr; · iexact Hlev
    isplitl [HC]; · iexact HC
    isplitl [Hc]; · iexact Hc
    iexact HO
  iintro ⟨Hp, Hz, HO⟩
  iapply Hk
  isplitl [HO]
  · isplitr; · iexact Hlev
    iexact HO
  isplitl [Hp]
  · iapply (Entails.of_eq (show pay m c 0 k = any (F := F) (row bXs (up k)) c by unfold pay; rw [if_pos rfl])) $$ Hp
  iexact Hz

/-- The wait for a return's own sending: its semaphore is at zero again. -/
theorem sentY_rule (c : Dev nD) (k : Fin 7) (K : Pr F) (Q : PUnit → sProp 𝕄) :
    iprop((levAts L lv ∗ Owe c 0) ∗ Cell m c 2 k ∗ cred (tallyAt (cell c 2 k) () N))
      ⊢ iprop(((levAts L lv ∗ Owe c 0) ∗ zeroAt c (dmaR 2 k) -∗ WP c K Q) -∗ WP c (sentY c k K) Q) := by
  unfold sentY
  iintro ⟨⟨#Hlev, HO⟩, HC, Hc⟩ Hk
  iapply (arrive_rule m c 2 k (ahead bYs c k) (own bYr c) _ _ rfl 0 (mayWait_none c _) K Q) $$ [HO HC Hc]
  · isplitr; · iexact Hlev
    isplitl [HC]; · iexact HC
    isplitl [Hc]; · iexact Hc
    iexact HO
  iintro ⟨-, Hz, HO⟩
  iapply Hk
  isplitl [HO]
  · isplitr; · iexact Hlev
    iexact HO
  iexact Hz

/-! ## The experts -/

/-- An expert's blocks, its weights, its columns of the result: before and after. -/
abbrev XC (c : Dev nD) (s : Fin 8) : sProp 𝕄 := at_ (col bXr s) c (XR m c)
abbrev WC (c : Dev nD) (s : Fin 8) : sProp 𝕄 := at_ (row bEw s) c (ewIn m c)
abbrev YC (c : Dev nD) (s : Fin 8) : sProp 𝕄 := any (F := F) (col bYs s) c
abbrev YD (c : Dev nD) (s : Fin 8) : sProp 𝕄 := at_ (col bYs s) c (YS m c)
/-- Its copies in flight, on half `b` of the buffers. -/
abbrev FW (c : Dev nD) (s : Fin 8) (b : Fin 2) : sProp 𝕄 := Fly c (dmaL (lW b)) (row bEw s) (half3 bW b) (ewIn m c) (WB m c s)
abbrev FX (c : Dev nD) (s : Fin 8) (b : Fin 2) : sProp 𝕄 := Fly c (dmaL (lXa b)) (col bXr s) (half4 bXa b) (XR m c) (XA m c s)
abbrev FY (c : Dev nD) (s : Fin 8) (b : Fin 2) : sProp 𝕄 := Fly c (dmaL (lYa b)) (half4 bYa b) (col bYs s) (YA m c s) (YS m c)
/-- Half `b` of the weights', of the blocks', of the products' buffers, free, with its semaphore. -/
abbrev FreeW (c : Dev nD) (b : Fin 2) : sProp 𝕄 := iprop(any (F := F) (half3 bW b) c ∗ zeroAt c (dmaL (lW b)))
abbrev FreeX (c : Dev nD) (b : Fin 2) : sProp 𝕄 := iprop(any (F := F) (half4 bXa b) c ∗ zeroAt c (dmaL (lXa b)))
abbrev FreeY (c : Dev nD) (b : Fin 2) : sProp 𝕄 := iprop(any (F := F) (half4 bYa b) c ∗ zeroAt c (dmaL (lYa b)))

/-- The start of a copy of an expert's weights into a half. -/
theorem startW_rule (c : Dev nD) (s : Fin 8) (b : Fin 2) (hb : par s = b) (K : Pr F) (Q : PUnit → sProp 𝕄) :
    iprop(WC m c s ∗ FreeW (F := F) c b) ⊢ iprop((FW m c s b -∗ WP c K Q) -∗ WP c (startW s K) Q) := by
  subst hb
  exact copy_rule c (dmaL (lW (par s))) (row bEw s) (half3 bW (par s)) _ _ _ (View.dmaCredit_pos _ (by decide)) _ _ (WB_read m c s _) K Q
/-- The start of a copy of an expert's rows into a half. -/
theorem startX_rule (c : Dev nD) (s : Fin 8) (b : Fin 2) (hb : par s = b) (K : Pr F) (Q : PUnit → sProp 𝕄) :
    iprop(XC m c s ∗ FreeX (F := F) c b) ⊢ iprop((FX m c s b -∗ WP c K Q) -∗ WP c (startX s K) Q) := by
  subst hb
  exact copy_rule c (dmaL (lXa (par s))) (col bXr s) (half4 bXa (par s)) _ _ _ (View.dmaCredit_pos _ (by decide)) _ _ (XA_read m c s _) K Q
/-- The start of a copy of an expert's products out of a half. -/
theorem startY_rule (c : Dev nD) (s : Fin 8) (b : Fin 2) (hb : par s = b) (K : Pr F) (Q : PUnit → sProp 𝕄) :
    iprop(at_ (half4 bYa b) c (YA m c s) ∗ YC (F := F) c s ∗ zeroAt c (dmaL (lYa b))) ⊢ iprop((FY m c s b -∗ WP c K Q) -∗ WP c (startY s K) Q) := by
  subst hb
  exact copy_rule c (dmaL (lYa (par s))) (half4 bYa (par s)) (col bYs s) _ _ _ (View.dmaCredit_pos _ (by decide)) _ _ (YS_read m c s _) K Q

/-- The wait for an expert's weights: they are in the half. -/
theorem waitW_rule (c : Dev nD) (s : Fin 8) (b : Fin 2) (hb : par s = b) (n : ℕ) (K : Pr F) (Q : PUnit → sProp 𝕄) :
    iprop(levAts L lv ∗ FW m c s b ∗ Owe c (oweY c n))
      ⊢ iprop(((at_ (half3 bW b) c (WB m c s) ∗ WC m c s ∗ zeroAt c (dmaL (lW b)) ∗ Owe c (oweY c n)) -∗ WP c K Q) -∗ WP c (waitW s K) Q) := by
  subst hb
  exact await_rule c (dmaL (lW (par s))) (row bEw s) (half3 bW (par s)) _ _ _ _ _ _ (mayWait_Y c _ (by revert s; decide) n) K Q
/-- The wait for an expert's rows: they are in the half. -/
theorem waitX_rule (c : Dev nD) (s : Fin 8) (b : Fin 2) (hb : par s = b) (n : ℕ) (K : Pr F) (Q : PUnit → sProp 𝕄) :
    iprop(levAts L lv ∗ FX m c s b ∗ Owe c (oweY c n))
      ⊢ iprop(((at_ (half4 bXa b) c (XA m c s) ∗ XC m c s ∗ zeroAt c (dmaL (lXa b)) ∗ Owe c (oweY c n)) -∗ WP c K Q) -∗ WP c (waitX s K) Q) := by
  subst hb
  exact await_rule c (dmaL (lXa (par s))) (col bXr s) (half4 bXa (par s)) _ _ _ _ _ _ (mayWait_Y c _ (by revert s; decide) n) K Q
/-- The wait for an expert's products: they are in the array to give back. -/
theorem waitY_rule (c : Dev nD) (s : Fin 8) (b : Fin 2) (hb : par s = b) (n : ℕ) (K : Pr F) (Q : PUnit → sProp 𝕄) :
    iprop(levAts L lv ∗ FY m c s b ∗ Owe c (oweY c n))
      ⊢ iprop(((YD m c s ∗ FreeY (F := F) c b ∗ Owe c (oweY c n)) -∗ WP c K Q) -∗ WP c (waitY s K) Q) := by
  subst hb
  iintro H Hk
  iapply (await_rule c (dmaL (lYa (par s))) (half4 bYa (par s)) (col bYs s) _ _ _ _ _ _ (mayWait_Y c _ (by revert s; decide) n) K Q) $$ H
  iintro ⟨HY, Hh, Hz, HO⟩
  iapply Hk
  isplitl [HY]; · iexact HY
  isplitl [Hh Hz]
  · isplitl [Hh]; · iexists _; iexact Hh
    iexact Hz
  iexact HO

/-- An expert's product. -/
theorem product_rule (c : Dev nD) (s : Fin 8) (b : Fin 2) (hb : par s = b) (K : Pr F) (Q : PUnit → sProp 𝕄) :
    iprop(at_ (half4 bXa b) c (XA m c s) ∗ at_ (half3 bW b) c (WB m c s) ∗ any (F := F) (half4 bYa b) c)
      ⊢ iprop(((any (F := F) (half4 bXa b) c ∗ any (F := F) (half3 bW b) c ∗ at_ (half4 bYa b) c (YA m c s)) -∗ WP c K Q) -∗ WP c (product s K) Q) := by
  subst hb
  unfold product
  iintro ⟨HX, HW, ⟨%f, HY⟩⟩ Hk
  iapply (load_rule c bXa (rH4 (par s)) _ (half4 bXa (par s)).view.set (half4_set bXa (par s)).symm.subset (XA m c s) _ (XA_acc m c s (par s)) _ Q) $$ HX
  iintro HX
  iapply (load_rule c bW (rH3 (par s)) _ (half3 bW (par s)).view.set (half3_set bW (par s)).symm.subset (WB m c s) _ (WB_acc m c s (par s)) _ Q) $$ HW
  iintro HW
  iapply (load_rule c bYa (rH4 (par s)) _ (half4 bYa (par s)).view.set (half4_set bYa (par s)).symm.subset f _ rfl _ Q) $$ HY
  iintro HY
  iapply (store_rule c bYa (rH4 (par s)) _ _ _ (half4 bYa (par s)).view.set (half4_set bYa (par s)).symm f (YA m c s) (YA_acc m c s (par s)) _ Q) $$ HY
  iintro HY
  iapply Hk
  isplitl [HX]; · iexists _; iexact HX
  isplitl [HW]; · iexists _; iexact HW
  iexact HY

/-- One expert of the loop's middle. -/
theorem expert_rule (c : Dev nD) (i : Fin 5) (s0 s2 s3 : Fin 8) (b b' : Fin 2) (h0 : s0.val = i.val) (h2 : s2.val = i.val + 2) (h3 : s3.val = i.val + 3)
    (hb0 : par s0 = b) (hb2 : par s2 = b) (hb3 : par s3 = b') (n : ℕ) (K : Pr F) (Q : PUnit → sProp 𝕄) :
    iprop(levAts L lv ∗ Owe c (oweY c n) ∗ FW m c s2 b ∗ FX m c s2 b ∗ FY m c s0 b ∗ FreeW (F := F) c b' ∗ FreeX (F := F) c b' ∗ XC m c s3 ∗ WC m c s3 ∗ YC (F := F) c s2)
      ⊢ iprop(((Owe c (oweY c n) ∗ FW m c s3 b' ∗ FX m c s3 b' ∗ FY m c s2 b ∗ FreeW (F := F) c b ∗ FreeX (F := F) c b ∗ XC m c s2 ∗ WC m c s2 ∗ YD m c s0) -∗ WP c K Q)
        -∗ WP c (expert i K) Q) := by
  have e0 : i.val < 8 := by omega
  have e2 : i.val + 2 < 8 := by omega
  have e3 : i.val + 3 < 8 := by omega
  obtain rfl : s0 = ⟨i.val, e0⟩ := Fin.ext h0
  obtain rfl : s2 = ⟨i.val + 2, e2⟩ := Fin.ext h2
  obtain rfl : s3 = ⟨i.val + 3, e3⟩ := Fin.ext h3
  unfold expert
  iintro ⟨#Hlev, HO, HFW, HFX, HFY, HW, HX, HXC, HWC, HYC⟩ Hk
  iapply (startW_rule m c _ b' hb3 _ Q) $$ [HWC HW]; · isplitl [HWC] <;> iassumption
  iintro HFW'
  iapply (startX_rule m c _ b' hb3 _ Q) $$ [HXC HX]; · isplitl [HXC] <;> iassumption
  iintro HFX'
  iapply (waitW_rule m c _ b hb2 n _ Q) $$ [HFW HO]
  · isplitr; · iexact Hlev
    isplitl [HFW] <;> iassumption
  iintro ⟨HW, HWC, HzW, HO⟩
  iapply (waitX_rule m c _ b hb2 n _ Q) $$ [HFX HO]
  · isplitr; · iexact Hlev
    isplitl [HFX] <;> iassumption
  iintro ⟨HX, HXC, HzX, HO⟩
  iapply (waitY_rule m c _ b hb0 n _ Q) $$ [HFY HO]
  · isplitr; · iexact Hlev
    isplitl [HFY] <;> iassumption
  iintro ⟨HYD, ⟨HY, HzY⟩, HO⟩
  iapply (product_rule m c _ b hb2 _ Q) $$ [HX HW HY]
  · isplitl [HX]; · iexact HX
    isplitl [HW] <;> iassumption
  iintro ⟨HX, HW, HY⟩
  iapply (startY_rule m c _ b hb2 _ Q) $$ [HY HYC HzY]
  · isplitl [HY]; · iexact HY
    isplitl [HYC] <;> iassumption
  iintro HFY
  iapply Hk
  isplitl [HO]; · iexact HO
  isplitl [HFW']; · iexact HFW'
  isplitl [HFX']; · iexact HFX'
  isplitl [HFY]; · iexact HFY
  isplitl [HW HzW]; · isplitl [HW] <;> iassumption
  isplitl [HX HzX]; · isplitl [HX] <;> iassumption
  isplitl [HXC]; · iexact HXC
  isplitl [HWC]; · iexact HWC
  iexact HYD

/-! ## The combination -/

/-- A whole buffer's elements. -/
abbrev full {sp : Space} {s : Shape} {e : EltTy} (M : Memref sig .tc sp s e) (c : Dev nD) (f : Buf (Elt F) (M.view.loc (c : Thread nD τ))) : sProp 𝕄 :=
  M.view.loc (c : Thread nD τ) ↦[Finset.univ]{fullShare} f

/-- The offset at the corner is zero on both axes. -/
theorem hz2 : (![0, 0] : Fin 2 → Nat) = fun _ => 0 := funext fun a => by fin_cases a <;> rfl
/-- A load of all the tokens reads them. -/
theorem bX_read (f : S2048x1024.Idx → Elt F .f32) : (bX.access rX).read (Elt F) f = f := Memref.read_access_unit_zero (Elt F) cc0_stg0_0 hz2 _ f
/-- A load of all the first slots reads them. -/
theorem bS0_read (f : S2048x1.Idx → Elt F .i32) : (bS0.access rS).read (Elt F) f = f := Memref.read_access_unit_zero (Elt F) cc0_stg1_0 hz2 _ f
/-- A load of all the second slots reads them. -/
theorem bS1_read (f : S2048x1.Idx → Elt F .i32) : (bS1.access rS).read (Elt F) f = f := Memref.read_access_unit_zero (Elt F) cc0_stg2_0 hz2 _ f
/-- A load of all the first gates reads them. -/
theorem bG0_read (f : S2048x1.Idx → Elt F .f32) : (bG0.access rS).read (Elt F) f = f := Memref.read_access_unit_zero (Elt F) cc0_stg3_0 hz2 _ f
/-- A load of all the second gates reads them. -/
theorem bG1_read (f : S2048x1.Idx → Elt F .f32) : (bG1.access rS).read (Elt F) f = f := Memref.read_access_unit_zero (Elt F) cc0_stg4_0 hz2 _ f
/-- A load of the whole result reads it. -/
theorem bOut_read (f : S2048x1024.Idx → Elt F .f32) : (bOut.access rX).read (Elt F) f = f := Memref.read_access_unit_zero (Elt F) cc0_stg5_0 hz2 _ f
/-- A load of the whole block reads it. -/
theorem bY_read (f : S1024x1024.Idx → Elt F .bf16) : (bY.access rY).read (Elt F) f = f := Memref.read_access_unit_zero (Elt F) cc0_scratch4 hz2 _ f
/-- An access of a whole buffer from its corner touches every element. -/
theorem set_unit_zero {κ : Kind} (b : Ref sig κ) {off : Fin b.ty.shape.rank → Nat} (h : off = fun _ => 0) (inb : ∀ a, off a + b.ty.shape.size a ≤ b.ty.shape.size a) :
    ((Memref.whole b).access (Rect.unit off b.ty.shape.size inb) : View sig κ _ _ _).set = Finset.univ := by
  subst h; exact Memref.set_access_whole b
/-- A store to the whole result touches every element. -/
theorem bOut_set : (bOut.access rX).set = Finset.univ := set_unit_zero cc0_stg5_0 hz2 _
/-- The block's view has every element. -/
theorem bY_set : bY.view.set = Finset.univ := View.set_whole _

/-- The result's staging buffer cleared. -/
theorem clear_rule (c : Dev nD) (f : Buf (Elt F) (bOut.view.loc (c : Thread nD τ))) (K : Pr F) (Q : PUnit → sProp 𝕄) :
    full bOut c f ⊢ iprop((full bOut c (OUT m c 0) -∗ WP c K Q) -∗ WP c (clear K) Q) := by
  unfold clear
  iintro H Hk
  iapply (load_rule c bOut rX _ Finset.univ (Finset.subset_univ _) f _ rfl _ Q) $$ H
  iintro H
  iapply (store_rule c bOut rX _ _ _ Finset.univ bOut_set f (OUT m c 0) (bOut_read _) _ Q) $$ H
  iexact Hk

/-- What the combination keeps from step to step: the block's buffer, the slots, the gates, the sum so far. -/
abbrev Sum (c : Dev nD) (n : ℕ) : sProp 𝕄 :=
  iprop(any (F := F) bY c ∗ zeroAt c (dmaL 7) ∗ full bS0 c (s0In m c) ∗ full bG0 c (g0In m c) ∗ full bS1 c (s1In m c) ∗ full bG1 c (g1In m c) ∗ full bOut c (OUT m c n))

/-- The block that the combination takes is the row come back from the device `k` before. -/
theorem YB_read (c : Dev nD) (k : Fin 8) : bY.view.read (Elt F) (YB m c k) = (row bYr (bwd c k)).view.read (Elt F) (YR m c) :=
  ext2 fun a b => (read_row bYr (bwd c k) (YR m c) a b).symm

/-- The block come back from the device `k` before, added in. -/
theorem combine_rule (c : Dev nD) (k : Fin 8) (K : Pr F) (Q : PUnit → sProp 𝕄) :
    iprop(levAts L lv ∗ Owe c 0 ∗ at_ (row bYr (bwd c k)) c (YR m c) ∗ Sum m c k.val)
      ⊢ iprop(((Owe c 0 ∗ at_ (row bYr (bwd c k)) c (YR m c) ∗ Sum m c (k.val + 1)) -∗ WP c K Q) -∗ WP c (combine c k K) Q) := by
  have start (S) (hS : S = row bYr (bwd c k)) (hs hd ht) (K : Pr F) :
      iprop(at_ (row bYr (bwd c k)) c (YR m c) ∗ any (F := F) bY c ∗ zeroAt c (dmaL 7))
      ⊢ iprop((Fly c (dmaL 7) (row bYr (bwd c k)) bY (YR m c) (YB m c k) -∗ WP c K Q)
        -∗ WP c (.op (.enqueueDma S (.here bY) (.dma (dmaL 7)) hs hd ht) fun _ => K) Q) := by
    subst hS
    exact copy_rule c (dmaL 7) (row bYr (bwd c k)) bY hs hd ht (View.dmaCredit_pos _ (by decide)) _ _ (YB_read m c k) K Q
  unfold combine
  iintro ⟨#Hlev, HO, Hr, HY, Hz, HS0, HG0, HS1, HG1, HOut⟩ Hk
  iapply (start _ (back_eq bYr c k) _ _ _ _) $$ [Hr HY Hz]
  · isplitl [Hr]; · iexact Hr
    isplitl [HY] <;> iassumption
  iintro HF
  iapply (load_rule c bS0 rS _ Finset.univ (Finset.subset_univ _) (s0In m c) _ (bS0_read _) _ Q) $$ HS0
  iintro HS0
  iapply (load_rule c bG0 rS _ Finset.univ (Finset.subset_univ _) (g0In m c) _ (bG0_read _) _ Q) $$ HG0
  iintro HG0
  iapply (load_rule c bS1 rS _ Finset.univ (Finset.subset_univ _) (s1In m c) _ (bS1_read _) _ Q) $$ HS1
  iintro HS1
  iapply (load_rule c bG1 rS _ Finset.univ (Finset.subset_univ _) (g1In m c) _ (bG1_read _) _ Q) $$ HG1
  iintro HG1
  iapply (await_rule c (dmaL 7) (row bYr (bwd c k)) bY _ _ _ _ _ 0 (mayWait_none c _) _ Q) $$ [HF HO]
  · isplitr; · iexact Hlev
    isplitl [HF] <;> iassumption
  iintro ⟨HY, Hr, Hz, HO⟩
  iapply (load_rule c bOut rX _ Finset.univ (Finset.subset_univ _) (OUT m c k.val) _ (bOut_read _) _ Q) $$ HOut
  iintro HOut
  iapply (load_rule c bY rY _ bY.view.set (by rw [bY_set]; exact Finset.subset_univ _) (YB m c k) _ (bY_read _) _ Q) $$ HY
  iintro HY
  iapply (load_rule c bOut rX _ Finset.univ (Finset.subset_univ _) (OUT m c k.val) _ (bOut_read _) _ Q) $$ HOut
  iintro HOut
  iapply (store_rule c bOut rX _ _ _ Finset.univ bOut_set (OUT m c k.val) (OUT m c (k.val + 1)) ((bOut_read _).trans (OUT_succ m c k)) _ Q) $$ HOut
  iintro HOut
  iapply Hk
  isplitl [HO]; · iexact HO
  isplitl [Hr]; · iexact Hr
  isplitl [HY]; · iexists _; iexact HY
  isplitl [Hz]; · iexact Hz
  isplitl [HS0]; · iexact HS0
  isplitl [HG0]; · iexact HG0
  isplitl [HS1]; · iexact HS1
  isplitl [HG1]; · iexact HG1
  iexact HOut

/-- Its arrival awaited first. -/
theorem collect_rule (c : Dev nD) (k : Fin 7) (K : Pr F) (Q : PUnit → sProp 𝕄) :
    iprop(((levAts L lv ∗ Owe c 0) ∗ Sum m c (k.val + 1)) ∗ Cell m c 3 k ∗ cred (tallyAt (cell c 3 k) () N))
      ⊢ iprop((((levAts L lv ∗ Owe c 0) ∗ Sum m c (k.val + 1 + 1)) ∗ at_ (row bYr (bwd c (up k))) c (YR m c) ∗ zeroAt c (dmaR 3 k) -∗ WP c K Q) -∗ WP c (collect c k K) Q) := by
  unfold collect receiveY
  iintro ⟨⟨⟨#Hlev, HO⟩, HS⟩, HC, Hc⟩ Hk
  iapply (arrive_rule m c 3 k (own bYr c) (ahead bYs c k) _ _ (credit_own bYr c) 0 (mayWait_none c _) _ Q) $$ [HO HC Hc]
  · isplitr; · iexact Hlev
    isplitl [HC]; · iexact HC
    isplitl [Hc]; · iexact Hc
    iexact HO
  iintro ⟨Hp, Hz, HO⟩
  ihave Hr := (Entails.of_eq (show pay m c 3 k = at_ (row bYr (bwd c (up k))) c (YR m c) by unfold pay; rw [if_neg (by decide), if_neg (by decide), if_pos rfl])) $$ Hp
  iapply (combine_rule m c (up k) _ Q) $$ [HO Hr HS]
  · isplitr; · iexact Hlev
    isplitl [HO]; · iexact HO
    isplitl [Hr] <;> iassumption
  iintro ⟨HO, Hr, HS⟩
  iapply Hk
  isplitl [HO HS]
  · isplitl [HO]
    · isplitr; · iexact Hlev
      iexact HO
    iexact HS
  isplitl [Hr]; · iexact Hr
  iexact Hz

end Cert.Proof

end
-- ==== Proof.Body.lean ====
/-
  The body on one device: from what the launch deals it to the result's staging buffer holding the eight combinations.
-/
module

public import proofs.«01_k».proof.Proof.Stretch

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Blocks of eight -/

/-- Eight things held together, written out. -/
theorem sep8 (P : Fin 8 → sProp 𝕄) : bigSep Finset.univ P = iprop(P 0 ∗ P 1 ∗ P 2 ∗ P 3 ∗ P 4 ∗ P 5 ∗ P 6 ∗ P 7) :=
  bigSep_univ_eq_bigSepL [0, 1, 2, 3, 4, 5, 6, 7] (by decide) (by decide) P
/-- Seven things held together, written out. -/
theorem sep7 (P : Fin 7 → sProp 𝕄) : bigSep Finset.univ P = iprop(P 0 ∗ P 1 ∗ P 2 ∗ P 3 ∗ P 4 ∗ P 5 ∗ P 6) :=
  bigSep_univ_eq_bigSepL [0, 1, 2, 3, 4, 5, 6] (by decide) (by decide) P
/-- The first and the seven after it. -/
theorem sep_up (P : Fin 8 → sProp 𝕄) : bigSep Finset.univ P = iprop(P 0 ∗ bigSep Finset.univ fun k : Fin 7 => P (up k)) := by
  rw [sep8, sep7]; rfl

/-- The devices, counted forwards and backwards from one. -/
def fwdE (c : Dev nD) : Fin 8 ≃ Fin 8 where
  toFun k := fwd c k
  invFun d := bwd d (c : Fin 8)
  left_inv k := bwd_dev c k
  right_inv d := Fin.ext (by have h : c.val < 8 := c.isLt; have := d.isLt; show (c.val + (d.val + 8 - c.val) % 8) % 8 = d.val; omega)
def bwdE (c : Dev nD) : Fin 8 ≃ Fin 8 where
  toFun k := bwd c k
  invFun d := bwd c (d : Fin 8)
  left_inv k := Fin.ext (by have h : c.val < 8 := c.isLt; have := k.isLt; show (c.val + 8 - (c.val + 8 - k.val) % 8) % 8 = k.val; omega)
  right_inv k := Fin.ext (by have h : c.val < 8 := c.isLt; have := k.isLt; show (c.val + 8 - (c.val + 8 - k.val) % 8) % 8 = k.val; omega)
/-- No step further is the device itself. -/
theorem fwd_zero (c : Dev nD) : fwd c 0 = c := Fin.ext (by have h : c.val < 8 := c.isLt; show (c.val + 0) % 8 = c.val; omega)
/-- No step before is the device itself. -/
theorem bwd_zero (c : Dev nD) : bwd c 0 = c := Fin.ext (by have h : c.val < 8 := c.isLt; show (c.val + 8 - 0) % 8 = c.val; omega)
/-- Something for each device is that for the device itself and for the seven further on. -/
theorem sep_fwd (c : Dev nD) (P : Fin 8 → sProp 𝕄) : bigSep Finset.univ P = iprop(P (c : Fin 8) ∗ bigSep Finset.univ fun k : Fin 7 => P (fwd c (up k) : Fin 8)) := by
  rw [bigSep_univ_equiv (fwdE c) P, sep_up]
  show iprop(P (fwd c 0 : Fin 8) ∗ _) = _
  rw [fwd_zero]; rfl
/-- Something for each device is that for the device itself and for the seven before. -/
theorem sep_bwd (c : Dev nD) (P : Fin 8 → sProp 𝕄) : bigSep Finset.univ P = iprop(P (c : Fin 8) ∗ bigSep Finset.univ fun k : Fin 7 => P (bwd c (up k) : Fin 8)) := by
  rw [bigSep_univ_equiv (bwdE c) P, sep_up]
  show iprop(P (bwd c 0 : Fin 8) ∗ _) = _
  rw [bwd_zero]; rfl

/-- What is held at given contents is held at some contents, for any set of elements. -/
theorem some_of {sp : Space} {s : Shape} {e : EltTy} {M : Memref sig .tc sp s e} (c : Dev nD) (f : Buf (Elt F) (M.view.loc (c : Thread nD τ)))
    (S : Finset (Idx (M.view.loc (c : Thread nD τ)))) :
    (M.view.loc (c : Thread nD τ) ↦[S]{fullShare} f : sProp 𝕄) ⊢ iprop(∃ f, M.view.loc (c : Thread nD τ) ↦[S]{fullShare} f) := by
  iintro H; iexists f; iexact H

/-- Sets that hold each index between them are all the indices. -/
theorem cover_of {A B : Type} [Fintype A] [DecidableEq A] [Fintype B] (I : B → Finset A) (h : ∀ i, ∃ k, i ∈ I k) : Finset.univ.biUnion I = Finset.univ :=
  Finset.eq_univ_iff_forall.mpr fun i => by
    obtain ⟨k, hk⟩ := h i
    exact Finset.mem_biUnion.mpr ⟨k, Finset.mem_univ k, hk⟩

section
variable {sp : Space} (M : Memref sig .tc sp S8x1024x1024 .bf16) (hM : M.view.set = Finset.univ) (c : Dev nD)
def rowsI (k : Fin 8) : Finset (Idx (M.view.loc (c : Thread nD τ))) := (row M k).view.set
/-- Different rows, as index sets, share no index. -/
theorem rowsI_disj (k k' : Fin 8) (h : k ≠ k') : Disjoint (rowsI M c k) (rowsI M c k') := rows_disjoint M k k' h
include hM
/-- The eight rows, as index sets, are all the indices. -/
theorem rowsI_cover : Finset.univ.biUnion (rowsI M c) = Finset.univ :=
  cover_of _ fun i => by
    have h : i ∈ (Finset.univ.biUnion fun k : Fin 8 => (row M k).view.set) := by rw [rows_cover, hM]; exact Finset.mem_univ _
    exact (Finset.mem_biUnion.mp h).imp fun k h => h.2
/-- Holding a buffer is holding its eight rows. -/
theorem rows_eq (f : Buf (Elt F) (M.view.loc (c : Thread nD τ))) : full M c f = bigSep Finset.univ fun k : Fin 8 => at_ (row M k) c f :=
  Ring.pointsTo_blocks (ℓ := M.view.loc (c : Thread nD τ)) (rowsI M c) (rowsI_disj M c) (rowsI_cover M hM c) f
/-- A buffer at some contents is eight rows at some contents. -/
theorem rows_any : iprop(∃ f, full M c f) ⊢ (bigSep Finset.univ fun k : Fin 8 => any (F := F) (row M k) c : sProp 𝕄) := by
  iintro ⟨%f, H⟩
  have h : (bigSep Finset.univ fun k : Fin 8 => at_ (row M k) c f : sProp 𝕄) ⊢ bigSep Finset.univ fun k : Fin 8 => any (F := F) (row M k) c :=
    bigSep_mono fun k _ => some_of (M := M) c f _
  iapply h
  iapply (Entails.of_eq (rows_eq M hM c f)); iexact H
/-- Eight rows, each at some contents, are a buffer at some contents. -/
theorem rows_join (f₀ : Buf (Elt F) (M.view.loc (c : Thread nD τ))) : (bigSep Finset.univ fun k : Fin 8 => any (F := F) (row M k) c : sProp 𝕄) ⊢ iprop(∃ f, full M c f) :=
  Ring.pointsTo_blocks_join_exists (ℓ := M.view.loc (c : Thread nD τ)) (rowsI M c) (rowsI_disj M c) (rowsI_cover M hM c) f₀
end

section
variable (M : Memref sig .tc .hbm S8x1024x1024 .bf16) (hM : M.view.set = Finset.univ) (c : Dev nD)
def colsI (k : Fin 8) : Finset (Idx (M.view.loc (c : Thread nD τ))) := (col M k).view.set
/-- Different experts' rows, as index sets, share no index. -/
theorem colsI_disj (k k' : Fin 8) (h : k ≠ k') : Disjoint (colsI M c k) (colsI M c k') := cols_disjoint M k k' h
include hM
/-- The eight experts' rows, as index sets, are all the indices. -/
theorem colsI_cover : Finset.univ.biUnion (colsI M c) = Finset.univ :=
  cover_of _ fun i => by
    have h : i ∈ (Finset.univ.biUnion fun k : Fin 8 => (col M k).view.set) := by rw [cols_cover, hM]; exact Finset.mem_univ _
    exact (Finset.mem_biUnion.mp h).imp fun k h => h.2
/-- Holding a buffer is holding the eight experts' rows of it. -/
theorem cols_eq (f : Buf (Elt F) (M.view.loc (c : Thread nD τ))) : full M c f = bigSep Finset.univ fun k : Fin 8 => at_ (col M k) c f :=
  Ring.pointsTo_blocks (ℓ := M.view.loc (c : Thread nD τ)) (colsI M c) (colsI_disj M c) (colsI_cover M hM c) f
/-- A buffer at some contents is eight experts' rows at some contents. -/
theorem cols_any : iprop(∃ f, full M c f) ⊢ (bigSep Finset.univ fun k : Fin 8 => any (F := F) (col M k) c : sProp 𝕄) := by
  iintro ⟨%f, H⟩
  have h : (bigSep Finset.univ fun k : Fin 8 => at_ (col M k) c f : sProp 𝕄) ⊢ bigSep Finset.univ fun k : Fin 8 => any (F := F) (col M k) c :=
    bigSep_mono fun k _ => some_of (M := M) c f _
  iapply h
  iapply (Entails.of_eq (cols_eq M hM c f)); iexact H
/-- Eight experts' rows, each at some contents, are a buffer at some contents. -/
theorem cols_join (f₀ : Buf (Elt F) (M.view.loc (c : Thread nD τ))) : (bigSep Finset.univ fun k : Fin 8 => any (F := F) (col M k) c : sProp 𝕄) ⊢ iprop(∃ f, full M c f) :=
  Ring.pointsTo_blocks_join_exists (ℓ := M.view.loc (c : Thread nD τ)) (colsI M c) (colsI_disj M c) (colsI_cover M hM c) f₀
end

section
variable (M : Memref sig .tc .vmem S2x1024x1024 .bf16) (hM : M.view.set = Finset.univ) (c : Dev nD)
def halves3I (k : Fin 2) : Finset (Idx (M.view.loc (c : Thread nD τ))) := (half3 M k).view.set
/-- The two halves of the weights' double buffer, as index sets, share no index. -/
theorem halves3I_disj (k k' : Fin 2) (h : k ≠ k') : Disjoint (halves3I M c k) (halves3I M c k') := halves3_disjoint M k k' h
include hM
/-- The two halves of the weights' double buffer, as index sets, are all the indices. -/
theorem halves3I_cover : Finset.univ.biUnion (halves3I M c) = Finset.univ :=
  cover_of _ fun i => by
    have h : i ∈ (Finset.univ.biUnion fun k : Fin 2 => (half3 M k).view.set) := by rw [halves3_cover, hM]; exact Finset.mem_univ _
    exact (Finset.mem_biUnion.mp h).imp fun k h => h.2
/-- Holding the weights' double buffer is holding its two halves. -/
theorem halves3_eq (f : Buf (Elt F) (M.view.loc (c : Thread nD τ))) : full M c f = bigSep Finset.univ fun k : Fin 2 => at_ (half3 M k) c f :=
  Ring.pointsTo_blocks (ℓ := M.view.loc (c : Thread nD τ)) (halves3I M c) (halves3I_disj M c) (halves3I_cover M hM c) f
/-- The weights' double buffer at some contents is two halves at some contents. -/
theorem halves3_any : iprop(∃ f, full M c f) ⊢ (bigSep Finset.univ fun k : Fin 2 => any (F := F) (half3 M k) c : sProp 𝕄) := by
  iintro ⟨%f, H⟩
  have h : (bigSep Finset.univ fun k : Fin 2 => at_ (half3 M k) c f : sProp 𝕄) ⊢ bigSep Finset.univ fun k : Fin 2 => any (F := F) (half3 M k) c :=
    bigSep_mono fun k _ => some_of (M := M) c f _
  iapply h
  iapply (Entails.of_eq (halves3_eq M hM c f)); iexact H
/-- Two halves, each at some contents, are the weights' double buffer at some contents. -/
theorem halves3_join (f₀ : Buf (Elt F) (M.view.loc (c : Thread nD τ))) : (bigSep Finset.univ fun k : Fin 2 => any (F := F) (half3 M k) c : sProp 𝕄) ⊢ iprop(∃ f, full M c f) :=
  Ring.pointsTo_blocks_join_exists (ℓ := M.view.loc (c : Thread nD τ)) (halves3I M c) (halves3I_disj M c) (halves3I_cover M hM c) f₀
end

section
variable (M : Memref sig .tc .vmem S2x8x128x1024 .bf16) (hM : M.view.set = Finset.univ) (c : Dev nD)
def halves4I (k : Fin 2) : Finset (Idx (M.view.loc (c : Thread nD τ))) := (half4 M k).view.set
/-- The two halves of a row double buffer, as index sets, share no index. -/
theorem halves4I_disj (k k' : Fin 2) (h : k ≠ k') : Disjoint (halves4I M c k) (halves4I M c k') := halves4_disjoint M k k' h
include hM
/-- The two halves of a row double buffer, as index sets, are all the indices. -/
theorem halves4I_cover : Finset.univ.biUnion (halves4I M c) = Finset.univ :=
  cover_of _ fun i => by
    have h : i ∈ (Finset.univ.biUnion fun k : Fin 2 => (half4 M k).view.set) := by rw [halves4_cover, hM]; exact Finset.mem_univ _
    exact (Finset.mem_biUnion.mp h).imp fun k h => h.2
/-- Holding a row double buffer is holding its two halves. -/
theorem halves4_eq (f : Buf (Elt F) (M.view.loc (c : Thread nD τ))) : full M c f = bigSep Finset.univ fun k : Fin 2 => at_ (half4 M k) c f :=
  Ring.pointsTo_blocks (ℓ := M.view.loc (c : Thread nD τ)) (halves4I M c) (halves4I_disj M c) (halves4I_cover M hM c) f
/-- A row double buffer at some contents is two halves at some contents. -/
theorem halves4_any : iprop(∃ f, full M c f) ⊢ (bigSep Finset.univ fun k : Fin 2 => any (F := F) (half4 M k) c : sProp 𝕄) := by
  iintro ⟨%f, H⟩
  have h : (bigSep Finset.univ fun k : Fin 2 => at_ (half4 M k) c f : sProp 𝕄) ⊢ bigSep Finset.univ fun k : Fin 2 => any (F := F) (half4 M k) c :=
    bigSep_mono fun k _ => some_of (M := M) c f _
  iapply h
  iapply (Entails.of_eq (halves4_eq M hM c f)); iexact H
/-- Two halves, each at some contents, are a row double buffer at some contents. -/
theorem halves4_join (f₀ : Buf (Elt F) (M.view.loc (c : Thread nD τ))) : (bigSep Finset.univ fun k : Fin 2 => any (F := F) (half4 M k) c : sProp 𝕄) ⊢ iprop(∃ f, full M c f) :=
  Ring.pointsTo_blocks_join_exists (ℓ := M.view.loc (c : Thread nD τ)) (halves4I M c) (halves4I_disj M c) (halves4I_cover M hM c) f₀
end

/-! ## The experts' stretch -/

/-- The three pairs of halves, free. -/
abbrev Halves (c : Dev nD) : sProp 𝕄 :=
  iprop(FreeW (F := F) c 0 ∗ FreeW (F := F) c 1 ∗ FreeX (F := F) c 0 ∗ FreeX (F := F) c 1 ∗ FreeY (F := F) c 0 ∗ FreeY (F := F) c 1)

set_option maxHeartbeats 1600000 in
/-- The eight experts, one after the other: from the received rows to the products to give back. -/
theorem experts_rule (c : Dev nD) (K : Pr F) (Q : PUnit → sProp 𝕄) :
    iprop(levAts L lv ∗ Owe c (oweY c 0) ∗ bigSep Finset.univ (XC m c) ∗ bigSep Finset.univ (WC m c) ∗ bigSep Finset.univ (YC (F := F) c) ∗ Halves (F := F) c)
      ⊢ iprop(((Owe c (oweY c 0) ∗ bigSep Finset.univ (WC m c) ∗ bigSep Finset.univ (YD m c) ∗ Halves (F := F) c) -∗ WP c K Q) -∗ WP c (experts K) Q) := by
  rw [sep8 (XC m c), sep8 (WC m c), sep8 (YC c), sep8 (YD m c)]
  unfold experts
  iintro ⟨#Hlev, HO, ⟨X0, X1, X2, X3, X4, X5, X6, X7⟩, ⟨W0, W1, W2, W3, W4, W5, W6, W7⟩, ⟨Y0, Y1, Y2, Y3, Y4, Y5, Y6, Y7⟩, HW0, HW1, HX0, HX1, ⟨HY0, HzY0⟩, ⟨HY1, HzY1⟩⟩ Hk
  iapply (startW_rule m c 0 0 rfl _ Q) $$ [W0 HW0]; · isplitl [W0] <;> iassumption
  iintro FW0
  iapply (startX_rule m c 0 0 rfl _ Q) $$ [X0 HX0]; · isplitl [X0] <;> iassumption
  iintro FX0
  iapply (startW_rule m c 1 1 rfl _ Q) $$ [W1 HW1]; · isplitl [W1] <;> iassumption
  iintro FW1
  iapply (startX_rule m c 1 1 rfl _ Q) $$ [X1 HX1]; · isplitl [X1] <;> iassumption
  iintro FX1
  iapply (waitW_rule m c 0 0 rfl 0 _ Q) $$ [FW0 HO]
  · isplitr; · iexact Hlev
    isplitl [FW0] <;> iassumption
  iintro ⟨HW, W0, HzW, HO⟩
  iapply (waitX_rule m c 0 0 rfl 0 _ Q) $$ [FX0 HO]
  · isplitr; · iexact Hlev
    isplitl [FX0] <;> iassumption
  iintro ⟨HX, X0, HzX, HO⟩
  iapply (product_rule m c 0 0 rfl _ Q) $$ [HX HW HY0]
  · isplitl [HX]; · iexact HX
    isplitl [HW] <;> iassumption
  iintro ⟨HX, HW, HY⟩
  iapply (startY_rule m c 0 0 rfl _ Q) $$ [HY Y0 HzY0]
  · isplitl [HY]; · iexact HY
    isplitl [Y0] <;> iassumption
  iintro FY0
  iapply (startW_rule m c 2 0 rfl _ Q) $$ [W2 HW HzW]
  · isplitl [W2]; · iexact W2
    isplitl [HW] <;> iassumption
  iintro FW0
  iapply (startX_rule m c 2 0 rfl _ Q) $$ [X2 HX HzX]
  · isplitl [X2]; · iexact X2
    isplitl [HX] <;> iassumption
  iintro FX0
  iapply (waitW_rule m c 1 1 rfl 0 _ Q) $$ [FW1 HO]
  · isplitr; · iexact Hlev
    isplitl [FW1] <;> iassumption
  iintro ⟨HW, W1, HzW, HO⟩
  iapply (waitX_rule m c 1 1 rfl 0 _ Q) $$ [FX1 HO]
  · isplitr; · iexact Hlev
    isplitl [FX1] <;> iassumption
  iintro ⟨HX, X1, HzX, HO⟩
  iapply (product_rule m c 1 1 rfl _ Q) $$ [HX HW HY1]
  · isplitl [HX]; · iexact HX
    isplitl [HW] <;> iassumption
  iintro ⟨HX, HW, HY⟩
  iapply (startY_rule m c 1 1 rfl _ Q) $$ [HY Y1 HzY1]
  · isplitl [HY]; · iexact HY
    isplitl [Y1] <;> iassumption
  iintro FY1
  iapply (expert_rule m c 0 0 2 3 0 1 rfl rfl rfl rfl rfl rfl 0 _ Q) $$ [HO FW0 FX0 FY0 HW HzW HX HzX X3 W3 Y2]
  · isplitr; · iexact Hlev
    isplitl [HO]; · iexact HO
    isplitl [FW0]; · iexact FW0
    isplitl [FX0]; · iexact FX0
    isplitl [FY0]; · iexact FY0
    isplitl [HW HzW]; · isplitl [HW] <;> iassumption
    isplitl [HX HzX]; · isplitl [HX] <;> iassumption
    isplitl [X3]; · iexact X3
    isplitl [W3]; · iexact W3
    iexact Y2
  iintro ⟨HO, FW1, FX1, FY0, HW, HX, X2, W2, D0⟩
  iapply (expert_rule m c 1 1 3 4 1 0 rfl rfl rfl rfl rfl rfl 0 _ Q) $$ [HO FW1 FX1 FY1 HW HX X4 W4 Y3]
  · isplitr; · iexact Hlev
    isplitl [HO]; · iexact HO
    isplitl [FW1]; · iexact FW1
    isplitl [FX1]; · iexact FX1
    isplitl [FY1]; · iexact FY1
    isplitl [HW]; · iexact HW
    isplitl [HX]; · iexact HX
    isplitl [X4]; · iexact X4
    isplitl [W4]; · iexact W4
    iexact Y3
  iintro ⟨HO, FW0, FX0, FY1, HW, HX, X3, W3, D1⟩
  iapply (expert_rule m c 2 2 4 5 0 1 rfl rfl rfl rfl rfl rfl 0 _ Q) $$ [HO FW0 FX0 FY0 HW HX X5 W5 Y4]
  · isplitr; · iexact Hlev
    isplitl [HO]; · iexact HO
    isplitl [FW0]; · iexact FW0
    isplitl [FX0]; · iexact FX0
    isplitl [FY0]; · iexact FY0
    isplitl [HW]; · iexact HW
    isplitl [HX]; · iexact HX
    isplitl [X5]; · iexact X5
    isplitl [W5]; · iexact W5
    iexact Y4
  iintro ⟨HO, FW1, FX1, FY0, HW, HX, X4, W4, D2⟩
  iapply (expert_rule m c 3 3 5 6 1 0 rfl rfl rfl rfl rfl rfl 0 _ Q) $$ [HO FW1 FX1 FY1 HW HX X6 W6 Y5]
  · isplitr; · iexact Hlev
    isplitl [HO]; · iexact HO
    isplitl [FW1]; · iexact FW1
    isplitl [FX1]; · iexact FX1
    isplitl [FY1]; · iexact FY1
    isplitl [HW]; · iexact HW
    isplitl [HX]; · iexact HX
    isplitl [X6]; · iexact X6
    isplitl [W6]; · iexact W6
    iexact Y5
  iintro ⟨HO, FW0, FX0, FY1, HW, HX, X5, W5, D3⟩
  iapply (expert_rule m c 4 4 6 7 0 1 rfl rfl rfl rfl rfl rfl 0 _ Q) $$ [HO FW0 FX0 FY0 HW HX X7 W7 Y6]
  · isplitr; · iexact Hlev
    isplitl [HO]; · iexact HO
    isplitl [FW0]; · iexact FW0
    isplitl [FX0]; · iexact FX0
    isplitl [FY0]; · iexact FY0
    isplitl [HW]; · iexact HW
    isplitl [HX]; · iexact HX
    isplitl [X7]; · iexact X7
    isplitl [W7]; · iexact W7
    iexact Y6
  iintro ⟨HO, FW1, FX1, FY0, HW0, HX0, X6, W6, D4⟩
  iapply (waitW_rule m c 7 1 rfl 0 _ Q) $$ [FW1 HO]
  · isplitr; · iexact Hlev
    isplitl [FW1] <;> iassumption
  iintro ⟨HW, W7, HzW, HO⟩
  iapply (waitX_rule m c 7 1 rfl 0 _ Q) $$ [FX1 HO]
  · isplitr; · iexact Hlev
    isplitl [FX1] <;> iassumption
  iintro ⟨HX, X7, HzX, HO⟩
  iapply (waitY_rule m c 5 1 rfl 0 _ Q) $$ [FY1 HO]
  · isplitr; · iexact Hlev
    isplitl [FY1] <;> iassumption
  iintro ⟨D5, ⟨HY, HzY⟩, HO⟩
  iapply (product_rule m c 7 1 rfl _ Q) $$ [HX HW HY]
  · isplitl [HX]; · iexact HX
    isplitl [HW] <;> iassumption
  iintro ⟨HX, HW, HY⟩
  iapply (startY_rule m c 7 1 rfl _ Q) $$ [HY Y7 HzY]
  · isplitl [HY]; · iexact HY
    isplitl [Y7] <;> iassumption
  iintro FY1
  iapply (waitY_rule m c 6 0 rfl 0 _ Q) $$ [FY0 HO]
  · isplitr; · iexact Hlev
    isplitl [FY0] <;> iassumption
  iintro ⟨D6, HY0, HO⟩
  iapply (waitY_rule m c 7 1 rfl 0 _ Q) $$ [FY1 HO]
  · isplitr; · iexact Hlev
    isplitl [FY1] <;> iassumption
  iintro ⟨D7, HY1, HO⟩
  iapply Hk
  isplitl [HO]; · iexact HO
  isplitl [W0 W1 W2 W3 W4 W5 W6 W7]
  · isplitl [W0]; · iexact W0
    isplitl [W1]; · iexact W1
    isplitl [W2]; · iexact W2
    isplitl [W3]; · iexact W3
    isplitl [W4]; · iexact W4
    isplitl [W5]; · iexact W5
    isplitl [W6] <;> iassumption
  isplitl [D0 D1 D2 D3 D4 D5 D6 D7]
  · isplitl [D0]; · iexact D0
    isplitl [D1]; · iexact D1
    isplitl [D2]; · iexact D2
    isplitl [D3]; · iexact D3
    isplitl [D4]; · iexact D4
    isplitl [D5]; · iexact D5
    isplitl [D6] <;> iassumption
  isplitl [HW0]; · iexact HW0
  isplitl [HW HzW]; · isplitl [HW] <;> iassumption
  isplitl [HX0]; · iexact HX0
  isplitl [HX HzX]; · isplitl [HX] <;> iassumption
  isplitl [HY0] <;> iassumption

end Cert.Proof

end
-- ==== Proof.Sound.lean ====
/-
  The body on one device, whole: the stretches in their order, from what the launch deals it to the result's staging
  buffer holding the eight combinations.
-/
module

public import proofs.«01_k».proof.Proof.Body

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Two things held together, written out. -/
theorem sep2 (P : Fin 2 → sProp 𝕄) : bigSep Finset.univ P = iprop(P 0 ∗ P 1) :=
  bigSep_univ_eq_bigSepL [0, 1] (by decide) (by decide) P
/-- Two families held together are the family of pairs. -/
theorem join2 {n : ℕ} (P Q : Fin n → sProp 𝕄) : iprop(bigSep Finset.univ P ∗ bigSep Finset.univ Q) = bigSep Finset.univ fun k => iprop(P k ∗ Q k) :=
  (bigSep_sep' _ _ _).symm
/-- Three families held together are the family of triples. -/
theorem join3 {n : ℕ} (P Q R : Fin n → sProp 𝕄) :
    iprop(bigSep Finset.univ P ∗ bigSep Finset.univ Q ∗ bigSep Finset.univ R) = bigSep Finset.univ fun k => iprop(P k ∗ Q k ∗ R k) := by
  rw [join2, join2]

/-- A device's scratch buffers. -/
abbrev Scr (c : Dev nD) : sProp 𝕄 :=
  iprop((∃ f, full bXs c f) ∗ (∃ f, full bXa c f) ∗ (∃ f, full bW c f) ∗ (∃ f, full bYa c f) ∗ (∃ f, full bY c f))
/-- The arrivals it will await. -/
abbrev Credits (c : Dev nD) : sProp 𝕄 :=
  iprop((bigSep Finset.univ fun k : Fin 7 => cred (tallyAt (cell c 1 k) () N)) ∗ (bigSep Finset.univ fun k : Fin 7 => cred (tallyAt (cell c 3 k) () N)))
/-- What the launch deals it: its sends' and its cells' records, the rows its blocks land in, its own buffers, its local semaphores. -/
abbrev Sends (c : Dev nD) : sProp 𝕄 := iprop((bigSep Finset.univ (Send m c 0 1)) ∗ (bigSep Finset.univ (Send m c 2 3)))
abbrev Cells (c : Dev nD) : sProp 𝕄 :=
  iprop((bigSep Finset.univ (Cell m c 0)) ∗ (bigSep Finset.univ (Cell m c 1)) ∗ (bigSep Finset.univ (Cell m c 2)) ∗ (bigSep Finset.univ (Cell m c 3)))
abbrev Lands (c : Dev nD) : sProp 𝕄 :=
  iprop((any (F := F) (row bXr c) c ∗ bigSep Finset.univ fun k : Fin 7 => any (F := F) (row bXr c) (fwd c (up k)))
    ∗ (any (F := F) (row bYr c) c ∗ bigSep Finset.univ fun k : Fin 7 => any (F := F) (row bYr c) (fwd c (up k))))
abbrev Zeros (c : Dev nD) : sProp 𝕄 := bigSep Finset.univ fun k : Fin 8 => zeroAt c (dmaL k)
abbrev Deal (c : Dev nD) : sProp 𝕄 :=
  iprop(Sends m c ∗ Cells m c ∗ Lands (F := F) c ∗ (∃ f, full bYs c f) ∗ full bEw c (ewIn m c) ∗ Zeros (F := F) c)
/-- The inputs as staged. -/
abbrev Staged (c : Dev nD) : sProp 𝕄 :=
  iprop(full bX c (xIn m c) ∗ full bS0 c (s0In m c) ∗ full bS1 c (s1In m c) ∗ full bG0 c (g0In m c) ∗ full bG1 c (g1In m c))
/-- The remote copies' semaphores at zero. -/
abbrev ZerosR (c : Dev nD) (i : Fin 4) : sProp 𝕄 := bigSep Finset.univ fun k : Fin 7 => zeroAt c (dmaR i k)

/-- The view of the sent token rows has every element. -/
theorem bXs_set : bXs.view.set = Finset.univ := View.set_whole _
/-- The view of the double buffer of an expert's rows has every element. -/
theorem bXa_set : bXa.view.set = Finset.univ := View.set_whole _
/-- The view of the weights' double buffer has every element. -/
theorem bW_set : bW.view.set = Finset.univ := View.set_whole _
/-- The view of the double buffer of products has every element. -/
theorem bYa_set : bYa.view.set = Finset.univ := View.set_whole _
/-- The view of the received token rows has every element. -/
theorem bXr_set : bXr.view.set = Finset.univ := View.set_whole _
/-- The view of the products to give back has every element. -/
theorem bYs_set : bYs.view.set = Finset.univ := View.set_whole _
/-- The view of the products come back has every element. -/
theorem bYr_set : bYr.view.set = Finset.univ := View.set_whole _
/-- The view of the weights has every element. -/
theorem bEw_set : bEw.view.set = Finset.univ := View.set_whole _

/-- What is held at given contents is held at some contents. -/
theorem any_at {sp : Space} {s : Shape} {e : EltTy} {M : Memref sig .tc sp s e} (c : Dev nD) (f : Buf (Elt F) (M.view.loc (c : Thread nD τ))) : at_ M c f ⊢ any (F := F) M c := by
  iintro H; iexists f; iexact H

/-- The blocks received, by sender, are the experts' columns. -/
theorem rows_cols (c : Dev nD) :
    iprop(at_ (row bXr c) c (XR m c) ∗ bigSep Finset.univ fun k : Fin 7 => at_ (row bXr (bwd c (up k))) c (XR m c)) = bigSep Finset.univ (XC m c) :=
  (sep_bwd c fun k => at_ (row bXr k) c (XR m c)).symm.trans ((rows_eq bXr bXr_set c (XR m c)).symm.trans (cols_eq bXr bXr_set c (XR m c)))
/-- The experts' columns of the result are the blocks to give back, by receiver. -/
theorem cols_rows (c : Dev nD) :
    bigSep Finset.univ (YD m c) = iprop(at_ (row bYs c) c (YS m c) ∗ bigSep Finset.univ fun k : Fin 7 => at_ (row bYs (fwd c (up k))) c (YS m c)) :=
  (cols_eq bYs bYs_set c (YS m c)).symm.trans ((rows_eq bYs bYs_set c (YS m c)).trans (sep_fwd c fun k => at_ (row bYs k) c (YS m c)))

/-- The three pairs of halves, and back. -/
theorem halves_of (c : Dev nD) :
    iprop((∃ f, full bXa c f) ∗ (∃ f, full bW c f) ∗ (∃ f, full bYa c f) ∗ zeroAt c (dmaL 1) ∗ zeroAt c (dmaL 2) ∗ zeroAt c (dmaL 3) ∗ zeroAt c (dmaL 4) ∗ zeroAt c (dmaL 5) ∗ zeroAt c (dmaL 6))
      ⊢ Halves (F := F) c := by
  have hX := halves4_any (F := F) bXa bXa_set c
  have hW := halves3_any (F := F) bW bW_set c
  have hY := halves4_any (F := F) bYa bYa_set c
  rw [sep2] at hX hW hY
  iintro ⟨HX, HW, HY, Z1, Z2, Z3, Z4, Z5, Z6⟩
  ihave HX := hX $$ HX
  ihave HW := hW $$ HW
  ihave HY := hY $$ HY
  icases HX with ⟨X0, X1⟩
  icases HW with ⟨W0, W1⟩
  icases HY with ⟨Y0, Y1⟩
  isplitl [W0 Z3]; · isplitl [W0]; · iexact W0
                     iexact Z3
  isplitl [W1 Z4]; · isplitl [W1]; · iexact W1
                     iexact Z4
  isplitl [X0 Z1]; · isplitl [X0]; · iexact X0
                     iexact Z1
  isplitl [X1 Z2]; · isplitl [X1]; · iexact X1
                     iexact Z2
  isplitl [Y0 Z5]; · isplitl [Y0]; · iexact Y0
                     iexact Z5
  isplitl [Y1]; · iexact Y1
  iexact Z6
/-- The double buffers, taken apart into their halves. -/
theorem halves_to (c : Dev nD) :
    Halves (F := F) c ⊢ iprop((∃ f, full bXa c f) ∗ (∃ f, full bW c f) ∗ (∃ f, full bYa c f) ∗ zeroAt c (dmaL 1) ∗ zeroAt c (dmaL 2) ∗ zeroAt c (dmaL 3) ∗ zeroAt c (dmaL 4) ∗ zeroAt c (dmaL 5) ∗ zeroAt c (dmaL 6)) := by
  have hX := halves4_join (F := F) bXa bXa_set c (XA (fun _ => default) c 0)
  have hW := halves3_join (F := F) bW bW_set c (WB (fun _ => default) c 0)
  have hY := halves4_join (F := F) bYa bYa_set c (YA (fun _ => default) c 0)
  rw [sep2] at hX hW hY
  iintro ⟨⟨W0, Z3⟩, ⟨W1, Z4⟩, ⟨X0, Z1⟩, ⟨X1, Z2⟩, ⟨Y0, Z5⟩, ⟨Y1, Z6⟩⟩
  isplitl [X0 X1]
  · iapply hX; isplitl [X0] <;> iassumption
  isplitl [W0 W1]
  · iapply hW; isplitl [W0] <;> iassumption
  isplitl [Y0 Y1]
  · iapply hY; isplitl [Y0] <;> iassumption
  isplitl [Z1]; · iexact Z1
  isplitl [Z2]; · iexact Z2
  isplitl [Z3]; · iexact Z3
  isplitl [Z4]; · iexact Z4
  isplitl [Z5] <;> iassumption

/-! ## The sevens -/

/-- The seven dispatches, one after the other. -/
theorem dispatches (c : Dev nD) (K : Pr F) (Q : PUnit → sProp 𝕄) :
    iprop(Owe c (O₀ c) ∗ (bigSep Finset.univ fun k : Fin 7 => any (F := F) (row bXs (up k)) c)
        ∗ (bigSep Finset.univ fun k : Fin 7 => any (F := F) (row bXr c) (fwd c (up k))) ∗ bigSep Finset.univ (Send m c 0 1))
      ⊢ iprop((Owe c (oweY c 0) ∗ (bigSep Finset.univ fun k : Fin 7 => cred (tallyAt (cell c 0 k) () N)) -∗ WP c K Q)
          -∗ WP c (seven (dispatch c (xIn m c) (s0In m c) (s1In m c)) K) Q) := by
  have h := seven_rule c (dispatch c (xIn m c) (s0In m c) (s1In m c)) (fun n => Owe (F := F) c (oweX c n + oweY c 0)) _ _ Q
    (fun k K => dispatch_rule m c (oweY c 0) k K Q) K
  rw [oweX_end, zero_add] at h
  rw [join3]
  exact h

/-- The seven waits for what the peers dispatch. -/
theorem receives (c : Dev nD) (K : Pr F) (Q : PUnit → sProp 𝕄) :
    iprop((levAts L lv ∗ Owe c (oweY c 0)) ∗ bigSep Finset.univ (Cell m c 1) ∗ bigSep Finset.univ fun k : Fin 7 => cred (tallyAt (cell c 1 k) () N))
      ⊢ iprop(((levAts L lv ∗ Owe c (oweY c 0)) ∗ (bigSep Finset.univ fun k : Fin 7 => at_ (row bXr (bwd c (up k))) c (XR m c)) ∗ ZerosR (F := F) c 1 -∗ WP c K Q)
          -∗ WP c (seven (receive c) K) Q) := by
  have h := seven_rule c (receive c) (fun _ => iprop(levAts L lv ∗ Owe (F := F) c (oweY c 0))) _ _ Q (fun k K => receive_rule m c 0 k K Q) K
  rw [join2, join2]
  exact h

/-- The seven returns, one after the other. -/
theorem givesBack (c : Dev nD) (K : Pr F) (Q : PUnit → sProp 𝕄) :
    iprop(Owe c (oweY c 0) ∗ (bigSep Finset.univ fun k : Fin 7 => at_ (row bYs (fwd c (up k))) c (YS m c))
        ∗ (bigSep Finset.univ fun k : Fin 7 => any (F := F) (row bYr c) (fwd c (up k))) ∗ bigSep Finset.univ (Send m c 2 3))
      ⊢ iprop((Owe c 0 ∗ (bigSep Finset.univ fun k : Fin 7 => cred (tallyAt (cell c 2 k) () N)) -∗ WP c K Q) -∗ WP c (seven (giveBack c) K) Q) := by
  have h := seven_rule c (giveBack c) (fun n => Owe (F := F) c (oweY c n)) _ _ Q (fun k K => giveBack_rule m c k K Q) K
  rw [oweY_end] at h
  rw [join3]
  exact h

/-- The eight combinations, one after the other. -/
theorem collects (c : Dev nD) (K : Pr F) (Q : PUnit → sProp 𝕄) :
    iprop(((levAts L lv ∗ Owe c 0) ∗ Sum m c 1) ∗ bigSep Finset.univ (Cell m c 3) ∗ bigSep Finset.univ fun k : Fin 7 => cred (tallyAt (cell c 3 k) () N))
      ⊢ iprop((((levAts L lv ∗ Owe c 0) ∗ Sum m c 8) ∗ (bigSep Finset.univ fun k : Fin 7 => at_ (row bYr (bwd c (up k))) c (YR m c)) ∗ ZerosR (F := F) c 3 -∗ WP c K Q)
          -∗ WP c (seven (collect c) K) Q) := by
  have h := seven_rule c (collect c) (fun n => iprop((levAts L lv ∗ Owe (F := F) c 0) ∗ Sum m c (n + 1))) _ _ Q (fun k K => collect_rule m c k K Q) K
  rw [join2, join2]
  exact h

/-- The seven waits for the dispatches' own sending. -/
theorem sentsX (c : Dev nD) (K : Pr F) (Q : PUnit → sProp 𝕄) :
    iprop((levAts L lv ∗ Owe c 0) ∗ bigSep Finset.univ (Cell m c 0) ∗ bigSep Finset.univ fun k : Fin 7 => cred (tallyAt (cell c 0 k) () N))
      ⊢ iprop(((levAts L lv ∗ Owe c 0) ∗ (bigSep Finset.univ fun k : Fin 7 => any (F := F) (row bXs (up k)) c) ∗ ZerosR (F := F) c 0 -∗ WP c K Q)
          -∗ WP c (seven (sentX c) K) Q) := by
  have h := seven_rule c (sentX c) (fun _ => iprop(levAts L lv ∗ Owe (F := F) c 0)) _ _ Q (fun k K => sentX_rule m c k K Q) K
  rw [join2, join2]
  exact h

/-- The seven waits for the returns' own sending. -/
theorem sentsY (c : Dev nD) (K : Pr F) (Q : PUnit → sProp 𝕄) :
    iprop((levAts L lv ∗ Owe c 0) ∗ bigSep Finset.univ (Cell m c 2) ∗ bigSep Finset.univ fun k : Fin 7 => cred (tallyAt (cell c 2 k) () N))
      ⊢ iprop(((levAts L lv ∗ Owe c 0) ∗ ZerosR (F := F) c 2 -∗ WP c K Q) -∗ WP c (seven (sentY c) K) Q) := by
  have h := seven_rule c (sentY c) (fun _ => iprop(levAts L lv ∗ Owe (F := F) c 0)) _ _ Q (fun k K => sentY_rule m c k K Q) K
  rw [join2]
  exact h

/-! ## The body -/

/-- Asking for the device's number yields it. -/
theorem device_rule (c : Dev nD) (K : Dev nD → Pr F) (Q : PUnit → sProp 𝕄) : WP c (K c) Q ⊢ WP c (.op .deviceId K) Q :=
  Entails.of_eq (wp_deviceId (c := (c : Thread nD τ)) (k := K) ..).symm

/-- The end of a program keeps what is held. -/
theorem ret_rule (c : Dev nD) (Q : PUnit → sProp 𝕄) : Q ⟨⟩ ⊢ WP c (.ret ⟨⟩) Q := by
  unfold WP
  rw [wp_ret]
  iintro H; imodintro; iexact H

abbrev bodyPre (c : Dev nD) : sProp 𝕄 :=
  iprop(levAts L lv ∗ Credits (F := F) c ∗ Deal m c ∗ Scr (F := F) c ∗ Owe c (O₀ c) ∗ Staged m c ∗ (∃ f, full bOut c f))
abbrev bodyPost (c : Dev nD) : sProp 𝕄 :=
  iprop((full bEw c (ewIn m c) ∗ (Zeros (F := F) c ∗ ZerosR (F := F) c 0 ∗ ZerosR (F := F) c 1 ∗ ZerosR (F := F) c 2 ∗ ZerosR (F := F) c 3) ∗ Scr (F := F) c)
    ∗ Owe c 0 ∗ Staged m c ∗ full bOut c (OUT m c 8))

set_option maxHeartbeats 1600000 in
/-- The body on one device. -/
theorem sound_body (c : Dev nD) (Q : PUnit → sProp 𝕄) : bodyPre m c ⊢ iprop((bodyPost m c -∗ Q ⟨⟩) -∗ WP c prog Q) := by
  have hXs := rows_any (F := F) bXs bXs_set c
  have hXs' := rows_join (F := F) bXs bXs_set c (XS m c)
  rw [sep_up] at hXs hXs'
  have hEw := rows_eq (F := F) bEw bEw_set c (ewIn m c)
  have hYs := cols_any (F := F) bYs bYs_set c
  unfold prog
  iintro ⟨#Hlev, ⟨Hc1, Hc3⟩, ⟨⟨Hsx, Hsy⟩, ⟨C0, C1, C2, C3⟩, ⟨⟨HXo, HXl⟩, ⟨HYo, HYl⟩⟩, HYs, HEw, HZ⟩, ⟨HXs, HXa, HW, HYa, HY⟩, HO, ⟨HX, HS0, HS1, HG0, HG1⟩, ⟨%fo, HOut⟩⟩ Hk
  iapply (device_rule c _ Q)
  ihave HZ := (Entails.of_eq (sep8 fun k => zeroAt c (dmaL k))) $$ HZ
  icases HZ with ⟨Z0, Z1, Z2, Z3, Z4, Z5, Z6, Z7⟩
  iapply (load_rule c bX rX _ Finset.univ (Finset.subset_univ _) (xIn m c) _ (bX_read _) _ Q) $$ HX
  iintro HX
  iapply (load_rule c bS0 rS _ Finset.univ (Finset.subset_univ _) (s0In m c) _ (bS0_read _) _ Q) $$ HS0
  iintro HS0
  iapply (load_rule c bS1 rS _ Finset.univ (Finset.subset_univ _) (s1In m c) _ (bS1_read _) _ Q) $$ HS1
  iintro HS1
  ihave HXs := hXs $$ HXs
  icases HXs with ⟨HXs0, HXs⟩
  iapply (put_rule m c 0 _ Q) $$ HXs0
  iintro HXs0
  iapply (keep_rule m c _ Q) $$ [HXs0 HXo Z0]
  · isplitl [HXs0]; · iexact HXs0
    isplitl [HXo] <;> iassumption
  iintro HF
  iapply (dispatches m c _ Q) $$ [HO HXs HXl Hsx]
  · isplitl [HO]; · iexact HO
    isplitl [HXs]; · iexact HXs
    isplitl [HXl] <;> iassumption
  iintro ⟨HO, Hc0⟩
  iapply (kept_rule m c (oweY c 0) (mayWait_Y c _ (by decide) 0) _ Q) $$ [HF HO]
  · isplitr; · iexact Hlev
    isplitl [HF] <;> iassumption
  iintro ⟨HXo, HXs0, Z0, HO⟩
  iapply (receives m c _ Q) $$ [HO C1 Hc1]
  · isplitl [HO]
    · isplitr; · iexact Hlev
      iexact HO
    isplitl [C1] <;> iassumption
  iintro ⟨⟨-, HO⟩, HXr, ZR1⟩
  ihave HXC := (Entails.of_eq (rows_cols m c)) $$ [HXo HXr]
  · isplitl [HXo] <;> iassumption
  ihave HWC := (Entails.of_eq hEw) $$ HEw
  ihave HYC := hYs $$ HYs
  ihave HH := (halves_of (F := F) c) $$ [HXa HW HYa Z1 Z2 Z3 Z4 Z5 Z6]
  · isplitl [HXa]; · iexact HXa
    isplitl [HW]; · iexact HW
    isplitl [HYa]; · iexact HYa
    isplitl [Z1]; · iexact Z1
    isplitl [Z2]; · iexact Z2
    isplitl [Z3]; · iexact Z3
    isplitl [Z4]; · iexact Z4
    isplitl [Z5] <;> iassumption
  iapply (experts_rule m c _ Q) $$ [HO HXC HWC HYC HH]
  · isplitr; · iexact Hlev
    isplitl [HO]; · iexact HO
    isplitl [HXC]; · iexact HXC
    isplitl [HWC]; · iexact HWC
    isplitl [HYC] <;> iassumption
  iintro ⟨HO, HWC, HYD, HH⟩
  ihave HYD := (Entails.of_eq (cols_rows m c)) $$ HYD
  icases HYD with ⟨HYs0, HYs⟩
  iapply (givesBack m c _ Q) $$ [HO HYs HYl Hsy]
  · isplitl [HO]; · iexact HO
    isplitl [HYs]; · iexact HYs
    isplitl [HYl] <;> iassumption
  iintro ⟨HO, Hc2⟩
  iapply (keepY_rule m c _ Q) $$ [HYs0 HYo Z0]
  · isplitl [HYs0]; · iexact HYs0
    isplitl [HYo] <;> iassumption
  iintro HF
  iapply (clear_rule m c fo _ Q) $$ HOut
  iintro HOut
  iapply (keptY_rule m c 0 (mayWait_none c _) _ Q) $$ [HF HO]
  · isplitr; · iexact Hlev
    isplitl [HF] <;> iassumption
  iintro ⟨HYo, -, Z0, HO⟩
  have hY1 : iprop(∃ f, full bY c f) ⊢ any (F := F) bY c := by rw [show any (F := F) bY c = iprop(∃ f, full bY c f) by unfold any at_; rw [bY_set]]
  have hY2 : any (F := F) bY c ⊢ iprop(∃ f, full bY c f) := by rw [show any (F := F) bY c = iprop(∃ f, full bY c f) by unfold any at_; rw [bY_set]]
  have hYo : at_ (row bYr c) c (YR m c) = at_ (row bYr (bwd c 0)) c (YR m c) := by rw [bwd_zero]
  ihave HY := hY1 $$ HY
  ihave HYo := (Entails.of_eq hYo) $$ HYo
  iapply (combine_rule m c 0 _ Q) $$ [HO HYo HY Z7 HS0 HG0 HS1 HG1 HOut]
  · isplitr; · iexact Hlev
    isplitl [HO]; · iexact HO
    isplitl [HYo]; · iexact HYo
    isplitl [HY]; · iexact HY
    isplitl [Z7]; · iexact Z7
    isplitl [HS0]; · iexact HS0
    isplitl [HG0]; · iexact HG0
    isplitl [HS1]; · iexact HS1
    isplitl [HG1]; · iexact HG1
    iexact HOut
  iintro ⟨HO, -, HS⟩
  iapply (collects m c _ Q) $$ [HO HS C3 Hc3]
  · isplitl [HO HS]
    · isplitl [HO]
      · isplitr; · iexact Hlev
        iexact HO
      iexact HS
    isplitl [C3] <;> iassumption
  iintro ⟨⟨⟨-, HO⟩, ⟨HY, Z7, HS0, HG0, HS1, HG1, HOut⟩⟩, -, ZR3⟩
  iapply (sentsX m c _ Q) $$ [HO C0 Hc0]
  · isplitl [HO]
    · isplitr; · iexact Hlev
      iexact HO
    isplitl [C0] <;> iassumption
  iintro ⟨⟨-, HO⟩, HXs, ZR0⟩
  iapply (sentsY m c _ Q) $$ [HO C2 Hc2]
  · isplitl [HO]
    · isplitr; · iexact Hlev
      iexact HO
    isplitl [C2] <;> iassumption
  iintro ⟨⟨-, HO⟩, ZR2⟩
  ihave HXs := hXs' $$ [HXs0 HXs]
  · isplitl [HXs0]
    · iexists _; iexact HXs0
    iexact HXs
  ihave HH := (halves_to (F := F) c) $$ HH
  icases HH with ⟨HXa, HW, HYa, Z1, Z2, Z3, Z4, Z5, Z6⟩
  ihave HEw := (Entails.of_eq hEw.symm) $$ HWC
  ihave HY := hY2 $$ HY
  iapply (ret_rule c Q)
  iapply Hk
  isplitl [HEw Z0 Z1 Z2 Z3 Z4 Z5 Z6 Z7 ZR0 ZR1 ZR2 ZR3 HXs HXa HW HYa HY]
  · isplitl [HEw]; · iexact HEw
    isplitl [Z0 Z1 Z2 Z3 Z4 Z5 Z6 Z7 ZR0 ZR1 ZR2 ZR3]
    · isplitl [Z0 Z1 Z2 Z3 Z4 Z5 Z6 Z7]
      · iapply (Entails.of_eq (sep8 fun k => zeroAt (F := F) c (dmaL k)).symm)
        isplitl [Z0]; · iexact Z0
        isplitl [Z1]; · iexact Z1
        isplitl [Z2]; · iexact Z2
        isplitl [Z3]; · iexact Z3
        isplitl [Z4]; · iexact Z4
        isplitl [Z5]; · iexact Z5
        isplitl [Z6] <;> iassumption
      isplitl [ZR0]; · iexact ZR0
      isplitl [ZR1]; · iexact ZR1
      isplitl [ZR2] <;> iassumption
    isplitl [HXs]; · iexact HXs
    isplitl [HXa]; · iexact HXa
    isplitl [HW]; · iexact HW
    isplitl [HYa] <;> iassumption
  isplitl [HO]; · iexact HO
  isplitr [HOut]
  · isplitl [HX]; · iexact HX
    isplitl [HS0]; · iexact HS0
    isplitl [HS1]; · iexact HS1
    isplitl [HG0] <;> iassumption
  iexact HOut

end Cert.Proof

end
-- ==== Proof.Start.lean ====
/-
  What the launch makes of the exchange's cells, the local semaphores and the unstaged buffers: each device's sends'
  and cells' records, and the rows of the OTHER devices' buffers its own blocks land in.
-/
module

public import proofs.«01_k».proof.Proof.Sound

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The launch element -/

/-- One duty on each of a device's cells. -/
abbrev duties : Dev nD → Finset ((Fin 4 × Fin 7) × ℕ × Unit) := fun _ => Finset.univ.map ⟨fun x => (x, 0, ()), fun _ _ h => congrArg Prod.fst h⟩

def uP : RR := initOf (Pipeline.PerCore.cells (Pipeline.pinD (pc (F := F)) pa) cellOf_inj) (Pipeline.PerCore.launchToks (Pipeline.pinD (pc (F := F)) pa) cellOf_inj)
def uR : RR := initOf (Pipeline.ownCells cfgs (0 : Fin 1) ownR) (Pipeline.ownToksOf cfgs (0 : Fin 1) ownR duties)
def uAll : UU := ((uP (F := F), uR), 1)

/-- The two parts of the launch's resource are held apart. -/
theorem ownU_split (a b : RR) : (ownU (((a, b), 1) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (Prod.mk_mem_op (URA.mem_op_one a) (URA.mem_one_op b)) (URA.mem_op_one 1)))

abbrev kcell (x : Dev nD × (Fin 4 × Fin 7)) : GSem nD τ sig := ((x.1 : Thread nD τ), semR x.2)
abbrev tok (c : Dev nD) (x : Fin 4 × Fin 7) : sProp 𝕄 := dutyTok ER (kcell (c, x)) 0 ()
abbrev Inv (g : GSem nD τ sig) : sProp 𝕄 := iprop(∃ κ : ℕ, cellInv ER (sched m) κ g)

/-- What the launch element deals device `c`. -/
abbrev G (c : Dev nD) : sProp 𝕄 := iprop(Pipeline.ownGhost cfgs (0 : Fin 1) ownR ER (sched m) c ∗ bigSep Finset.univ (tok (F := F) c))

/-- The tokens of a device's duties, one per exchange semaphore. -/
theorem toks_eq (c : Dev nD) : (bigSep (duties c) fun x => (dutyTok ER ((c : Thread nD τ), semR x.1) x.2.1 x.2.2 : sProp 𝕄)) = bigSep Finset.univ (tok (F := F) c) := by
  unfold duties
  rw [bigSep_map]
  rfl

/-- From the launch's resource come, for each device, its tokens and its positions. -/
theorem fund (u : RR) : iprop(BI.own (EP u) ∗ BI.own (ER uR)) ⊢ (|={Set.univ}=> iprop(BI.own (EP u) ∗ bigSep Finset.univ (G m)) : sProp 𝕄) := by
  iintro ⟨HP, HX⟩
  unfold uR
  imod (Pipeline.fund_own cfgs (0 : Fin 1) ownR ER (sched m) (Pipeline.ownToksOf cfgs (0 : Fin 1) ownR duties)) $$ HX with ⟨Hx, Htok⟩
  ihave Htk := (Entails.of_eq (Pipeline.bigSep_ownToksOf cfgs (0 : Fin 1) ownR ER duties)) $$ Htok
  ihave Htk := (Entails.of_eq (bigSep_congr (s := Finset.univ) fun (c : Dev nD) _ => toks_eq (F := F) c)) $$ Htk
  imodintro
  isplitl [HP]; · iexact HP
  iapply (Entails.of_eq (bigSep_sep' Finset.univ (fun c : Dev nD => Pipeline.ownGhost cfgs (0 : Fin 1) ownR ER (sched m) c) fun c => bigSep Finset.univ (tok (F := F) c)).symm)
  isplitl [Hx] <;> iassumption

/-! ## Per device: its cells allocated, its buffers taken apart -/

/-- Its cells' invariants and marks; its positions; its tokens; its local semaphores; its buffers. -/
abbrev Own (c : Dev nD) : sProp 𝕄 :=
  iprop((bigSep Finset.univ fun x => Inv m (kcell (c, x))) ∗ (bigSep Finset.univ fun x => reached ER (kcell (c, x)) 0)
    ∗ (bigSep Finset.univ fun x => atPos ER (kcell (c, x)) 0 ∅ 0) ∗ bigSep Finset.univ (tok (F := F) c)
    ∗ Zeros (F := F) c ∗ full bEw c (ewIn m c) ∗ (∃ f, full bXr c f) ∗ (∃ f, full bYs c f) ∗ (∃ f, full bYr c f))

/-- A device's semaphores are the exchange semaphores and the others. -/
theorem sems_split (c : Dev nD) : (Pipeline.ownSems0 semA c : sProp 𝕄) = iprop(Pipeline.ownSems0 semR c ∗ Zeros (F := F) c) :=
  bigSep_univ_sum _

/-- A device's exchange semaphores, at zero, become cells under the schedule. -/
theorem core_alloc (c : Dev nD) : iprop((Pipeline.ownSems0 semA c ∗ rest m c) ∗ G m c) ⊢ |={Set.univ}=> Own m c := by
  unfold G rest
  rw [Pipeline.ownGhost_eq, sems_split, unscopedRest0_eq, bigSep_sep']
  iintro ⟨⟨⟨Hos, HZ⟩, ⟨HEw, HXr, HYs, HYr⟩⟩, ⟨Hst, Hat, Hre⟩, Htok⟩
  imod (Pipeline.ownCells_alloc cfgs (0 : Fin 1) ownR ER (sched m) c) $$ [Hos Hst] with Hinv
  · isplitl [Hos] <;> iassumption
  imodintro
  isplitl [Hinv]; · iexact Hinv
  isplitl [Hre]; · iexact Hre
  isplitl [Hat]; · iexact Hat
  isplitl [Htok]; · iexact Htok
  isplitl [HZ]; · iexact HZ
  isplitl [HEw]; · iexact HEw
  isplitl [HXr]; · iexists _; iexact HXr
  isplitl [HYs]; · iexists _; iexact HYs
  iexists _; iexact HYr

/-! ## Around the ring -/

/-- The devices turned by `k`. -/
def turn (k : Fin 8) : Dev nD ≃ Dev nD where
  toFun c := fwd c k
  invFun c := bwd c k
  left_inv c := bwd_fwd c k
  right_inv c := Fin.ext (by have h : c.val < 8 := c.isLt; have := k.isLt; show ((c.val + 8 - k.val) % 8 + k.val) % 8 = c.val; omega)

/-- Something for every device and every step is the same thing taken, for each device and step, at the device that many steps further on. -/
theorem around (P : Dev nD → Fin 7 → sProp 𝕄) :
    (bigSep Finset.univ fun c : Dev nD => bigSep Finset.univ (P c)) = bigSep Finset.univ fun c : Dev nD => bigSep Finset.univ fun k : Fin 7 => P (fwd c (up k)) k := by
  rw [bigSep_univ_comm, bigSep_congr (s := Finset.univ) fun (k : Fin 7) _ => bigSep_univ_equiv (turn (up k)) fun c => P c k, bigSep_univ_comm]
  rfl

/-- Rows of every device's buffer, each to the device whose block lands there. -/
theorem lands (M : Memref sig .tc .hbm S8x1024x1024 .bf16) (hM : M.view.set = Finset.univ) :
    (bigSep Finset.univ fun d : Dev nD => iprop(∃ f, full (F := F) M d f) : sProp 𝕄)
      ⊢ bigSep Finset.univ fun c : Dev nD => iprop(any (F := F) (row M c) c ∗ bigSep Finset.univ fun k : Fin 7 => any (F := F) (row M c) (fwd c (up k))) := by
  have h1 (d : Dev nD) : iprop(∃ f, full (F := F) M d f) ⊢ iprop(any (F := F) (row M d) d ∗ bigSep Finset.univ fun k : Fin 7 => any (F := F) (row M (bwd d (up k))) d) :=
    (rows_any M hM d).trans (Entails.of_eq (sep_bwd d fun k => any (F := F) (row M k) d))
  refine (bigSep_mono fun d _ => h1 d).trans ?_
  rw [bigSep_sep', bigSep_sep', around fun d k => any (F := F) (row M (bwd d (up k))) d]
  simp only [bwd_fwd]
  exact BI.Entails.refl _

/-! ## The deal -/

/-- The records every device may consult. -/
abbrev records : sProp 𝕄 :=
  iprop((bigSep Finset.univ fun x : Dev nD × (Fin 4 × Fin 7) => Inv m (kcell x)) ∗ bigSep Finset.univ fun x : Dev nD × (Fin 4 × Fin 7) => reached ER (kcell x) 0)

/-- The records tell of each exchange semaphore that it is under the schedule and has reached its first round. -/
theorem rec_at (c : Dev nD) (i : Fin 4) (k : Fin 7) : records m ⊢ iprop(Inv m (cell c i k) ∗ reached ER (cell c i k) 0) := by
  have h1 : (bigSep Finset.univ fun x : Dev nD × (Fin 4 × Fin 7) => Inv m (kcell x)) ⊢ Inv m (cell c i k) := bigSep_elim (i := (c, (i, k))) (Finset.mem_univ _)
  have h2 : (bigSep Finset.univ fun x : Dev nD × (Fin 4 × Fin 7) => (reached ER (kcell x) 0 : sProp 𝕄)) ⊢ reached ER (cell c i k) 0 := bigSep_elim (i := (c, (i, k))) (Finset.mem_univ _)
  exact BI.sep_mono h1 h2

/-- What a device needs for one remote copy. -/
theorem send_intro (c : Dev nD) (i i' : Fin 4) (k : Fin 7) : iprop(records m ∗ (tok c (i, k) ∗ tok (fwd c (up k)) (i', k))) ⊢ Send m c i i' k := by
  iintro ⟨#HR, H1, H2⟩
  ihave Ha := (rec_at m c i k) $$ HR
  ihave Hb := (rec_at m (fwd c (up k)) i' k) $$ HR
  icases Ha with ⟨#Ia, #Ra⟩
  icases Hb with ⟨#Ib, #Rb⟩
  unfold Send
  isplitr; · iexact Ia
  isplitr; · iexact Ib
  isplitl [H1]; · iexact H1
  isplitr; · iexact Ra
  isplitl [H2]; · iexact H2
  iexact Rb

/-- What a device needs to wait on one exchange semaphore. -/
theorem cell_intro (c : Dev nD) (i : Fin 4) (k : Fin 7) : iprop(records m ∗ atPos ER (cell c i k) 0 ∅ 0) ⊢ Cell m c i k := by
  iintro ⟨#HR, H⟩
  ihave Ha := (rec_at m c i k) $$ HR
  icases Ha with ⟨#Ia, -⟩
  unfold Cell
  isplitr; · iexact Ia
  iexact H

/-- What only device `c` holds of the exchange: the tokens it pays with, its positions. -/
abbrev toksOf (c : Dev nD) : sProp 𝕄 :=
  iprop((bigSep Finset.univ fun k : Fin 7 => iprop(tok (F := F) c (0, k) ∗ tok (F := F) (fwd c (up k)) (1, k))) ∗ (bigSep Finset.univ fun k : Fin 7 => iprop(tok (F := F) c (2, k) ∗ tok (F := F) (fwd c (up k)) (3, k))))

/-- Something for every exchange semaphore, kind by kind. -/
theorem sep_kinds (P : Fin 4 × Fin 7 → sProp 𝕄) : bigSep Finset.univ P
    = iprop((bigSep Finset.univ fun k => P (0, k)) ∗ (bigSep Finset.univ fun k => P (1, k)) ∗ (bigSep Finset.univ fun k => P (2, k)) ∗ (bigSep Finset.univ fun k => P (3, k))) := by
  rw [bigSep_univ_prod]
  exact bigSep_univ_eq_bigSepL [0, 1, 2, 3] (by decide) (by decide) fun i : Fin 4 => bigSep Finset.univ fun k => P (i, k)

/-- Four things, held as two pairs. -/
theorem sep_four (A B C D : sProp 𝕄) : iprop(A ∗ B ∗ C ∗ D) = iprop((A ∗ B) ∗ C ∗ D) := BI.Entails.antisymm BI.sep_assoc' BI.sep_assoc

/-- The tokens by the device that pays them are the tokens by the device that is paid. -/
theorem toks_around : (bigSep Finset.univ fun c : Dev nD => bigSep Finset.univ (tok (F := F) c) : sProp 𝕄) = bigSep Finset.univ (toksOf (F := F)) := by
  simp only [sep_kinds, bigSep_sep', toksOf]
  rw [← around fun c k => tok (F := F) c (1, k), ← around fun c k => tok (F := F) c (3, k)]
  simp only [sep_four]

/-- What a device starts with, put together. -/
theorem deal_intro (c : Dev nD) :
    iprop(records m ∗ ((bigSep Finset.univ fun x => atPos ER (kcell (c, x)) 0 ∅ 0) ∗ toksOf (F := F) c)) ⊢ iprop(Sends m c ∗ Cells m c) := by
  have hs (i i' : Fin 4) : iprop(records m ∗ bigSep Finset.univ fun k : Fin 7 => iprop(tok (F := F) c (i, k) ∗ tok (F := F) (fwd c (up k)) (i', k))) ⊢ bigSep Finset.univ (Send m c i i') :=
    bigSep_with_persistent fun k _ => send_intro m c i i' k
  have hc (i : Fin 4) : iprop(records m ∗ bigSep Finset.univ fun k : Fin 7 => atPos ER (kcell (c, (i, k))) 0 ∅ 0) ⊢ bigSep Finset.univ (Cell m c i) :=
    bigSep_with_persistent fun k _ => cell_intro m c i k
  rw [sep_kinds]
  iintro ⟨#HR, ⟨A0, A1, A2, A3⟩, T0, T2⟩
  isplitl [T0 T2]
  · isplitl [T0]
    · iapply (hs 0 1); isplitr; · iexact HR
      iexact T0
    · iapply (hs 2 3); isplitr; · iexact HR
      iexact T2
  isplitl [A0]
  · iapply (hc 0); isplitr; · iexact HR
    iexact A0
  isplitl [A1]
  · iapply (hc 1); isplitr; · iexact HR
    iexact A1
  isplitl [A2]
  · iapply (hc 2); isplitr; · iexact HR
    iexact A2
  · iapply (hc 3); isplitr; · iexact HR
    iexact A3

/-- What all devices own, dealt out so that each has the tokens for its own copies. -/
theorem regroup : bigSep Finset.univ (Own m) ⊢ bigSep Finset.univ (Deal m) := by
  have hd : iprop(records m ∗ bigSep Finset.univ fun c : Dev nD => iprop((bigSep Finset.univ fun x => atPos ER (kcell (c, x)) 0 ∅ 0) ∗ toksOf (F := F) c))
      ⊢ bigSep Finset.univ fun c : Dev nD => iprop(Sends m c ∗ Cells m c) := bigSep_with_persistent fun c _ => deal_intro m c
  simp only [Own, Deal, Lands, bigSep_sep'] at hd ⊢
  rw [← bigSep_univ_prod (fun x : Dev nD × (Fin 4 × Fin 7) => Inv m (kcell x)), ← bigSep_univ_prod (fun x : Dev nD × (Fin 4 × Fin 7) => (reached ER (kcell x) 0 : sProp 𝕄)), toks_around]
  simp only [toksOf, bigSep_sep']
  iintro ⟨HI, HR, Hat, Htok, HZ, HEw, HXr, HYs, HYr⟩
  ihave HX := (lands (F := F) bXr bXr_set) $$ HXr
  ihave HY := (lands (F := F) bYr bYr_set) $$ HYr
  ihave HX := (Entails.of_eq (bigSep_sep' _ _ _)) $$ HX
  ihave HY := (Entails.of_eq (bigSep_sep' _ _ _)) $$ HY
  ihave HS := hd $$ [HI HR Hat Htok]
  · isplitl [HI HR]
    · isplitl [HI]; · iexact HI
      iexact HR
    isplitl [Hat]; · iexact Hat
    iexact Htok
  icases HS with ⟨⟨HS1, HS2⟩, HC⟩
  isplitl [HS1 HS2]; · isplitl [HS1] <;> iassumption
  isplitl [HC]; · iexact HC
  isplitl [HX HY]; · isplitl [HX] <;> iassumption
  isplitl [HYs]; · iexact HYs
  isplitl [HEw] <;> iassumption

/-- From the semaphores at zero, what each device starts with. -/
theorem deal : (bigSep Finset.univ fun c => iprop((Pipeline.ownSems0 semA c ∗ rest m c) ∗ G m c) : sProp 𝕄) ⊢ |={Set.univ}=> bigSep Finset.univ (Deal m) :=
  ((bigSep_mono fun c _ => core_alloc m c).trans (bigSep_fupd _ _)).trans (BI.fupd_mono (regroup m))

/-! ## The arrivals a device is owed -/

/-- Copies of kind `i` from every device: what one of them owes. -/
def owe (i : Fin 4) (d : Dev nD) : CellTallies nD τ sig Unit := ∑ k : Fin 7, tallyAt (cell (fwd d (up k)) i k) () N

/-- The dispatch credits owed at the start. -/
theorem oweX_eq (d : Dev nD) : oweX d 0 = owe 1 d := Finset.sum_congr rfl fun _ _ => if_pos (Nat.zero_le _)
/-- The return credits owed at the start. -/
theorem oweY_eq (d : Dev nD) : oweY d 0 = owe 3 d := Finset.sum_congr rfl fun _ _ => if_pos (Nat.zero_le _)

/-- A device owes a cell its units exactly when it is the device whose copy lands there. -/
theorem owe_at (i : Fin 4) (d c : Dev nD) (k : Fin 7) : owe i d (cell c i k) () = if d = bwd c (up k) then N else 0 := by
  unfold owe
  rw [Finset.sum_apply, Finsupp.finset_sum_apply, Finset.sum_eq_single k, tallyAt_apply]
  · by_cases h : d = bwd c (up k)
    · subst h
      rw [if_pos ⟨by rw [(turn (up k)).right_inv c |> (show fwd (bwd c (up k)) (up k) = c from ·)], rfl⟩, if_pos rfl]
    · rw [if_neg h, if_neg]
      rintro ⟨h1, -⟩
      have h2 : c = fwd d (up k) := congrArg (fun g : GSem nD τ sig => g.1.1) h1
      exact h (by rw [h2, bwd_fwd])
  · intro j _ hj
    rw [tallyAt_apply, if_neg]
    rintro ⟨h1, -⟩
    have h2 : dmaR i k = dmaR i j := by
      have h3 : (SemLoc.dma (dmaR i k) : SemLoc sig) = .dma (dmaR i j) := congrArg Prod.snd h1
      exact SemLoc.dma.inj h3
    exact hj (by rw [← idxOf_R i j, ← h2, idxOf_R])
  · intro h; exact absurd (Finset.mem_univ _) h

/-- What all devices owe a cell at the start is one copy's units. -/
theorem launch_at (i : Fin 4) (c : Dev nD) (k : Fin 7) :
    tallyOn (cell c i k) (launchCredit (Pipeline.owing (owe i)) 0 (cell c i k)) = (tallyAt (cell c i k) () N : CellTallies nD τ sig Unit) := by
  unfold tallyAt; refine congrArg _ (Finsupp.ext fun u => ?_); cases u
  rw [Pipeline.launchCredit_owing, Finsupp.single_eq_same, Finset.sum_congr rfl fun d _ => owe_at i d c k, Finset.sum_ite_eq' Finset.univ (bwd c (up k)) fun _ => N,
    if_pos (Finset.mem_univ _)]

def kinds (i : Fin 4) : Fin 7 ↪ SemLoc sig := ⟨fun k => .dma (dmaR i k), fun k j h => by rw [← idxOf_R i k, SemLoc.dma.inj h, idxOf_R]⟩

/-- The credits that the launch promises to a device's cells of one kind. -/
theorem creds_at (i : Fin 4) (c : Dev nD) : (Pipeline.launchCred (owe i) c : sProp 𝕄) ⊢ bigSep Finset.univ fun k : Fin 7 => cred (tallyAt (cell c i k) () N) := by
  unfold Pipeline.launchCred
  refine (bigSep_subset (Finset.subset_univ (Finset.univ.map (kinds i)))).trans ?_
  rw [bigSep_map]
  have h (k : Fin 7) : cred (tallyOn ((c : Thread nD τ), kinds i k) (launchCredit (Pipeline.owing (owe i)) 0 ((c : Thread nD τ), kinds i k))) ⊢ (cred (tallyAt (cell c i k) () N) : sProp 𝕄) :=
    Entails.of_eq (congrArg cred (launch_at i c k))
  exact bigSep_mono fun k _ => h k

/-- The credits that the launch promises to a device. -/
theorem creds (c : Dev nD) : (Pipeline.launchCred O₀ c : sProp 𝕄) ⊢ Credits (F := F) c := by
  rw [show O₀ = fun d => owe 1 d + owe 3 d from funext fun d => by unfold O₀; rw [oweX_eq, oweY_eq], Pipeline.launchCred_add]
  exact BI.sep_mono (creds_at 1 c) (creds_at 3 c)

end Cert.Proof

end
-- ==== Proof.Run.lean ====
/-
  The kernel's run: its one grid point's body obligation, the launch, and what every array holds at the end.
-/
module

public import proofs.«01_k».proof.Proof.Start

@[expose] public section

noncomputable section

namespace Cert.Proof

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What a device starts with beside its scratch buffers. -/
abbrev Begin (c : Dev nD) : sProp 𝕄 := iprop(levAts L lv ∗ Credits (F := F) c ∗ Deal m c)
/-- Its local and exchange semaphores back at zero. -/
abbrev AllZero (c : Dev nD) : sProp 𝕄 := iprop(Zeros (F := F) c ∗ ZerosR (F := F) c 0 ∗ ZerosR (F := F) c 1 ∗ ZerosR (F := F) c 2 ∗ ZerosR (F := F) c 3)

/-- The one pipeline on device `c`. -/
def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => s0In m c
    | ⟨2, _⟩ => s1In m c
    | ⟨3, _⟩ => g0In m c
    | ⟨4, _⟩ => g1In m c
    | ⟨5, _⟩ => OUT m c 8
  Φ t := match t with
    | ⟨0, _⟩ => iprop(Begin m c ∗ Scr (F := F) c)
    | ⟨_ + 1, _⟩ => iprop(full bEw c (ewIn m c) ∗ AllZero (F := F) c ∗ Scr (F := F) c)
  q _ := fullShare
  owed t := match t with
    | ⟨0, _⟩ => O₀ c
    | ⟨_ + 1, _⟩ => 0

/-- Each window's array is held in full. -/
theorem share_full (c : Dev nD) (w : Fin cfg0.W) : (dats m 0 c).share w = fullShare := by
  unfold Dat.share; split <;> rfl

/-! ## The body obligation -/

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Holding a whole buffer, written in two ways. -/
theorem owns_whole_eq (c : Dev nD) (b : Ref sig .tc) (X : b.ty.Contents (Elt F)) :
    (owns (c : Thread nD τ) (Memref.whole b) fullShare X : sProp 𝕄) = stg c b X := by
  unfold owns; simp only [Memref.view_whole, View.read_whole, View.set_whole]

abbrev Before (c : Dev nD) : sProp 𝕄 :=
  iprop((Begin m c ∗ Scr (F := F) c) ∗ (dats m 0 c).owesAt () t0_0.castSucc
    ∗ (∃ d, stg c cc0_stg0_0 ((dats m 0 c).before (0 : Fin 6) t0_0 d)) ∗ (∃ d, stg c cc0_stg1_0 ((dats m 0 c).before (1 : Fin 6) t0_0 d))
    ∗ (∃ d, stg c cc0_stg2_0 ((dats m 0 c).before (2 : Fin 6) t0_0 d)) ∗ (∃ d, stg c cc0_stg3_0 ((dats m 0 c).before (3 : Fin 6) t0_0 d))
    ∗ (∃ d, stg c cc0_stg4_0 ((dats m 0 c).before (4 : Fin 6) t0_0 d)) ∗ (∃ d, stg c cc0_stg5_0 ((dats m 0 c).before (5 : Fin 6) t0_0 d)))

abbrev After (c : Dev nD) : sProp 𝕄 :=
  iprop((full bEw c (ewIn m c) ∗ AllZero (F := F) c ∗ Scr (F := F) c) ∗ (dats m 0 c).owesAt () t0_0.succ
    ∗ stg c cc0_stg0_0 (xIn m c) ∗ stg c cc0_stg1_0 (s0In m c) ∗ stg c cc0_stg2_0 (s1In m c) ∗ stg c cc0_stg3_0 (g0In m c) ∗ stg c cc0_stg4_0 (g1In m c)
    ∗ stg c cc0_stg5_0 (OUT m c 8))

/-- A buffer held in full is a staging buffer at its contents. -/
theorem stg_close (c : Dev nD) (b : Ref sig .tc) (X : b.ty.Contents (Elt F)) : (((c : Thread nD τ).loc b) ↦{fullShare} X : sProp 𝕄) ⊢ stg c b X := by
  iintro H; iexists _; isplitr; · (ipureintro; rfl)
  iexact H

/-- What the call hands over is what the body starts from. -/
theorem enter (c : Dev nD) : Before m c ⊢ bodyPre m c := by
  unfold Before bodyPre Begin Staged Owe
  iintro ⟨⟨⟨HL, HC, HD⟩, HS⟩, Ho, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  have e0 : f0 = xIn m c := h0.trans (by unfold Dat.before; rw [if_pos (fetch0_0 t0_0)]; rfl)
  have e1 : f1 = s0In m c := h1.trans (by unfold Dat.before; rw [if_pos (fetch0_1 t0_0)]; rfl)
  have e2 : f2 = s1In m c := h2.trans (by unfold Dat.before; rw [if_pos (fetch0_2 t0_0)]; rfl)
  have e3 : f3 = g0In m c := h3.trans (by unfold Dat.before; rw [if_pos (fetch0_3 t0_0)]; rfl)
  have e4 : f4 = g1In m c := h4.trans (by unfold Dat.before; rw [if_pos (fetch0_4 t0_0)]; rfl)
  subst e0 e1 e2 e3 e4
  unfold Dat.owesAt Pipeline.owesWithin
  icases Ho with ⟨%W, %hW, HO⟩
  isplitl [HL]; · iexact HL
  isplitl [HC]; · iexact HC
  isplitl [HD]; · iexact HD
  isplitl [HS]; · iexact HS
  isplitl [HO]; · iexists W; iexact HO
  isplitl [H0 H1 H2 H3 H4]
  · isplitl [H0]; · iexact H0
    isplitl [H1]; · iexact H1
    isplitl [H2]; · iexact H2
    isplitl [H3]; · iexact H3
    iexact H4
  iexists f5; iexact H5

/-- What the body ends with is what the call asks for. -/
theorem leave (c : Dev nD) : bodyPost m c ⊢ After m c := by
  unfold bodyPost After Staged Owe AllZero Dat.owesAt Pipeline.owesWithin
  iintro ⟨⟨HE, HZ, HS⟩, ⟨%W, HO⟩, ⟨H0, H1, H2, H3, H4⟩, H5⟩
  isplitl [HE HZ HS]
  · isplitl [HE]; · iexact HE
    isplitl [HZ]; · iexact HZ
    iexact HS
  isplitl [HO]
  · iexists W
    isplitr; · (ipureintro; exact fun _ _ => Or.inl trivial)
    iexact HO
  isplitl [H0]; · iapply (stg_close c cc0_stg0_0 (xIn m c)); iexact H0
  isplitl [H1]; · iapply (stg_close c cc0_stg1_0 (s0In m c)); iexact H1
  isplitl [H2]; · iapply (stg_close c cc0_stg2_0 (s1In m c)); iexact H2
  isplitl [H3]; · iapply (stg_close c cc0_stg3_0 (g0In m c)); iexact H3
  isplitl [H4]; · iapply (stg_close c cc0_stg4_0 (g1In m c)); iexact H4
  iapply (stg_close c cc0_stg5_0 (OUT m c 8)); iexact H5

/-- The body's run from the call's start to its end. -/
theorem body_run (c : Dev nD) : Before m c ⊢ WP c (prog (F := F)) fun _ => After m c := by
  refine (enter m c).trans ((sound_body m c fun _ => After m c).trans ?_)
  iintro H
  iapply H
  iintro HP
  iapply (leave m c); iexact HP

set_option maxRecDepth 4000 in
/-- The printed body is the sequence of the stretches. -/
theorem body_text : bodyAt0 (F := F) t0_0 = prog := by
  unfold bodyAt0
  rw [cc0_body_eq_skeleton]
  exact body_eq

set_option maxRecDepth 65536 in
set_option maxHeartbeats 1000000 in
/-- The body obligation of the one grid point. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show Before m c ⊢ WP c (bodyAt0 (F := F) t0_0) fun _ => After m c
  rw [body_text]
  exact body_run m c

/-! ## The launch -/

/-- The staging semaphores have the lowest level. -/
theorem stage_low : ∀ (w : Fin cfg0.W) (s : Fin (cfg0.win w).nbuf), lvS (.dma ((cfg0.win w).sem s)) = 0 := by decide

/-- The waits of the staging copies are allowed. -/
theorem waits (c : Dev nD) : (levAts L lv : sProp 𝕄) ⊢ Pipeline.PerCore.RDat.cellsWaits (Pipeline.pinD (pc (F := F)) pa) (rdat (dats m)) () 0 c :=
  Pipeline.PerCore.RDat.cellsWaits_intro _ _ () 0 c fun w s t => by
    rcases t with ⟨_ | _, ht⟩
    · exact mayWait_all c _ (stage_low w s)
    · exact mayWait_none c _

/-- What the call begins with, put together. -/
theorem begin_intro (c : Dev nD) : iprop(levAts L lv ∗ Pipeline.launchCred O₀ c ∗ Deal m c) ⊢ Begin m c :=
  BI.sep_mono (BI.Entails.refl _) (BI.sep_mono (creds c) (BI.Entails.refl _))

/-- What the call begins with gives the body what it keeps beside the windows. -/
theorem phi_in (c : Dev nD) : iprop(Begin m c ∗ Pipeline.scopedRest cfg0.spec c) ⊢ (dats m 0 c).Φ 0 := by
  rw [show (dats m 0 c).Φ 0 = iprop(Begin m c ∗ Scr (F := F) c) from rfl, scopedRest0_eq]

/-- All the kernel's semaphores, group by group at zero, are all at zero. -/
theorem zeros_all (c : Dev nD) : AllZero (F := F) c ⊢ Pipeline.ownSems0 semA c := by
  rw [sems_split]
  unfold AllZero Pipeline.ownSems0
  rw [sep_kinds]
  iintro ⟨HZ, H0, H1, H2, H3⟩
  isplitl [H0 H1 H2 H3]
  · isplitl [H0]; · iexact H0
    isplitl [H1]; · iexact H1
    isplitl [H2]; · iexact H2
    iexact H3
  iexact HZ

/-- What the body keeps at the end gives back the weights, the semaphores at zero and the scratch buffers. -/
theorem phi_out (c : Dev nD) : (dats m 0 c).Φ (Fin.last cfg0.N) ⊢ iprop(full bEw c (ewIn m c) ∗ Pipeline.ownSems0 semA c ∗ Pipeline.scopedRest cfg0.spec c) := by
  rw [show (dats m 0 c).Φ (Fin.last cfg0.N) = iprop(full bEw c (ewIn m c) ∗ AllZero (F := F) c ∗ Scr (F := F) c) from rfl, scopedRest0_eq]
  exact BI.sep_mono (BI.Entails.refl _) (BI.sep_mono (zeros_all c) (BI.Entails.refl _))

/-- The weights are what they were. -/
theorem ew_kept (c : Dev nD) (s' : Phys nD τ sig (Elt F)) :
    iprop(full bEw c (ewIn m c) ∗ SI s') ⊢ (iprop(⌜s'.mem.mem ((c : Thread nD τ).loc main_arg5) = m ((c : Thread nD τ).loc main_arg5)⌝ ∗ SI s') : sProp 𝕄) := by
  iintro ⟨H, HSI⟩
  ihave %h := (SI_pointsTo_agree (st := s') (ℓ := (c : Thread nD τ).loc main_arg5) (I := Finset.univ) (f := ewIn m c)) $$ [HSI H]
  · isplitl [HSI]; · iexact HSI
    iexact H
  isplitr
  · ipureintro; exact funext fun i => h i (Finset.mem_univ i)
  iexact HSI

/-- The launch's resource pays for each device's tokens and positions. -/
theorem launch_funds : (ownU (uAll (F := F)) : sProp 𝕄) ⊢ |={Set.univ}=> iprop(BI.own (EP (uP (F := F))) ∗ bigSep Finset.univ (G m)) := by
  unfold uAll
  exact (ownU_split _ _).trans (fund m _)

/-- What the run leaves. -/
abbrev Done (r : PUnit × MemSt nD τ sig (Elt F)) : Prop :=
  (∀ c : Dev nD, r.2.mem ((c : Thread nD τ).loc main_v1_0) = OUT m c 8
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5))
  ∧ r.2.sem = fun _ => 0

/-- An input's array is what it was. -/
theorem unchanged (c : Dev nD) (w : Fin 6) (h : (cfg0.win w).isOut = false) : (dats m 0 c).arrAt w cfg0.N = m ((cfg0.win w).arr.view.loc (c : Thread nD τ)) :=
  (dats m 0 c).arrAt_in w h _

/-- The result's array is the result after eight combinations. -/
theorem result (c : Dev nD) : (dats m 0 c).arrAt (5 : Fin 6) cfg0.N = OUT m c 8 := by
  have h : (win0_5.blk (0 : Fin 1)).view.read (Elt F) ((dats m 0 c).arrAt (5 : Fin 6) cfg0.N) = OUT m c 8 := by
    rw [show cfg0.N = ((0 : Fin 1) : Fin cfg0.N).val + 1 from rfl, (dats m 0 c).arrAt_succ (5 : Fin 6) (0 : Fin 1)]
    rw [show (cfg0.win (5 : Fin 6)).flush (0 : Fin 1) = true from flush0_5 _, if_pos rfl]
    exact View.read_write_univ _ _
  have hz : (fun a => (win0_5.index (0 : Fin 1)) a * main_v1_0.ty.shape.size a) = fun _ => 0 := funext fun a => by fin_cases a <;> decide
  exact (Memref.read_access_unit_zero (Elt F) main_v1_0 hz (fun a => by fin_cases a <;> decide) _).symm.trans h

/-- Every fair execution of the kernel on the eight devices ends, its result at the combined rows, its arguments and
    the semaphores as they were. -/
theorem run_main : θ_run defs (onTc (τ := τ) (main (F := F))) ⟨m, fun _ => 0, ρ⟩ (Done m) :=
  (θ_run defs _ _).mono (fun r h => ⟨fun c => ⟨((h.1 c).1 5).trans (result m c), ((h.1 c).1 0).trans (unchanged m c 0 rfl), ((h.1 c).1 1).trans (unchanged m c 1 rfl),
      ((h.1 c).1 2).trans (unchanged m c 2 rfl), ((h.1 c).1 3).trans (unchanged m c 3 rfl), ((h.1 c).1 4).trans (unchanged m c 4 rfl), (h.1 c).2⟩, h.2⟩)
    (run_dealt m ρ (dats m) (fun c => (body_obligation m c).loose) (share_full m) O₀ (fun _ => rfl) (fun _ => rfl) L lv L_of_ne (waits m)
      (G m) (Deal m) uAll (launch_funds m) (deal m) (fun _ _ => rfl) (Begin m) (fun c => full bEw c (ewIn m c)) (begin_intro m) (phi_in m) (phi_out m)
      (fun c s => s.mem ((c : Thread nD τ).loc main_arg5) = m ((c : Thread nD τ).loc main_arg5)) (ew_kept m))

end Cert.Proof

end
-- ==== Proof.Ref.lean ====
/-
  The reference's run: what its result holds once its host operations have run in order.
-/
module

public import proofs.«01_k».proof.Proof.Gen.ReferenceIdeal
public import Idealize.ShloMosaic.Lib.StableHlo.RunHlo
public import Idealize.ShloMosaic.Lib.StableHlo.RunRead

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- One slot's contribution before its gate: each token through the expert of its slot `s`, zero without a slot. -/
def chosen (x : FVec F S16384x1024 .f32) (s : IVec S16384x1 32) (w : FVec F S64x1024x1024 .bf16) : FVec F S16384x1024 .f32 :=
  select
    (broadcastInDim S16384x1024 ![0, 1] bcast_S16384x1_S16384x1024_0_1
      (andi (cmpi .sge s (broadcastInDim S16384x1 ![] bcast_S_S16384x1 (constantI S_ 32 0#32)))
        (cmpi .slt s (broadcastInDim S16384x1 ![] bcast_S_S16384x1 (constantI S_ 32 8192#32)))))
    (Host.dotGeneral dot_S16384x1024_S16384x1024x1024_S16384x1024_1_1_n_2_0_0 none x
      (extf .f32 (Host.gather gather_S64x1024x1024_S16384x1_S16384x1024x1024_12_0_n_n_0_1_110241024 w
        (broadcastInDim S16384x1 ![0] bcast_S16384_S16384x1_0
          (shapeCast _ (Host.divsi s (broadcastInDim S16384x1 ![] bcast_S_S16384x1 (constantI S_ 32 128#32))) shapeCasts_S16384x1_S16384)))
        bitsLt_bf16_f32))
    (broadcastInDim S16384x1024 ![] bcast_S_S16384x1024 (id (constant S_ .f32 0x00000000#32)))

/-- The reference's result of its six arguments: both slots' contributions, each times its gate, added. -/
def result (x : FVec F S16384x1024 .f32) (s0 s1 : IVec S16384x1 32) (g0 g1 : FVec F S16384x1 .f32)
    (w : FVec F S64x1024x1024 .bf16) : FVec F S16384x1024 .f32 :=
  addf (mulf (broadcastInDim S16384x1024 ![0, 1] bcast_S16384x1_S16384x1024_0_1 g0) (chosen x s0 w))
    (mulf (broadcastInDim S16384x1024 ![0, 1] bcast_S16384x1_S16384x1024_0_1 g1) (chosen x s1 w))

/-- The reference has no scoped buffers. -/
theorem no_scoped_refs : (Finset.univ.filter fun b : Ref sig .tc => b.isScoped) = ∅ := by decide
/-- The reference has no scoped semaphores. -/
theorem no_scoped_sems : (Finset.univ.filter fun sm : SemLoc sig => sm.isScoped .tc) = ∅ := by decide

set_option maxRecDepth 8192 in
set_option maxHeartbeats 4000000 in
/-- The reference is a straight line of host operations on whole buffers, which leaves `result` of the arguments in the result
    buffer and the arguments as they were. -/
theorem line : ∃ ops : List (HloOp τ sig (Elt F)), (∀ d : Dev nD, IsSeq (main (F := F) d) ops)
    ∧ (ops.Forall fun op => op.bufs ⊆ tcRefs τ sig) ∧ (∀ op ∈ ops, op.fresh = ∅)
    ∧ ∀ V : Valuation τ sig (Elt F),
      after ops V (Proc.devRef .tc main_v28) = result (V (Proc.devRef .tc main_arg0)) (V (Proc.devRef .tc main_arg1))
          (V (Proc.devRef .tc main_arg2)) (V (Proc.devRef .tc main_arg3)) (V (Proc.devRef .tc main_arg4)) (V (Proc.devRef .tc main_arg5))
      ∧ after ops V (Proc.devRef .tc main_arg0) = V (Proc.devRef .tc main_arg0)
      ∧ after ops V (Proc.devRef .tc main_arg1) = V (Proc.devRef .tc main_arg1)
      ∧ after ops V (Proc.devRef .tc main_arg2) = V (Proc.devRef .tc main_arg2)
      ∧ after ops V (Proc.devRef .tc main_arg3) = V (Proc.devRef .tc main_arg3)
      ∧ after ops V (Proc.devRef .tc main_arg4) = V (Proc.devRef .tc main_arg4)
      ∧ after ops V (Proc.devRef .tc main_arg5) = V (Proc.devRef .tc main_arg5) := by
  apply Exists.intro
  refine ⟨fun d => ?_, ?_, ?_, fun V => ?_⟩
  · unfold main fn_where.body fn_take.body
    simp only [bind_assoc, pure_bind]
    hlo_seq
  · repeat' first | exact nullary_bufs_sub .. | exact unary_bufs_sub .. | exact binary_bufs_sub .. | exact reshape_bufs_sub .. | exact ternary_bufs_sub .. | exact trivial | refine ⟨?_, ?_⟩
  · intro op hop
    fin_cases hop <;> rfl
  · simp only [TRef.binary, TRef.ternary, TRef.unary, TRef.toBuf, TRef.ofBuf, cast_eq]
    refine ⟨?_, ?_, ?_, ?_, ?_, ?_, ?_⟩ <;>
    after_results_simp <;> rfl

/-- Every fair run of the reference ends with `result` of the arguments in its result buffer and the arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem (c.tc.loc main_v28) = result (m (c.tc.loc main_arg0)) (m (c.tc.loc main_arg1)) (m (c.tc.loc main_arg2))
          (m (c.tc.loc main_arg3)) (m (c.tc.loc main_arg4)) (m (c.tc.loc main_arg5))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)
      ∧ r.2.mem (c.tc.loc main_arg5) = m (c.tc.loc main_arg5) := by
  obtain ⟨ops, hmain, hsub, hfresh, hV⟩ := line (F := F)
  refine θ_run_mono (run_hlo defs main hmain no_scoped_refs no_scoped_sems hsub hfresh m ρ) fun r h c => ?_
  obtain ⟨e, e0, e1, e2, e3, e4, e5⟩ := hV (launchContents m c)
  exact ⟨(h c main_v28).trans e, (h c main_arg0).trans e0, (h c main_arg1).trans e1, (h c main_arg2).trans e2,
    (h c main_arg3).trans e3, (h c main_arg4).trans e4, (h c main_arg5).trans e5⟩

end Cert.Proof.Ref

end
-- ==== Proof.Frames.lean ====
/-
  The runs' claims that ask for no value: every program ends, its arguments and its semaphores as they were.
-/
module

public import proofs.«01_k».proof.Proof.Run
public import proofs.«01_k».proof.Proof.Gen.Kernel
public import proofs.«01_k».proof.Proof.Ref

@[expose] public section

noncomputable section

namespace Cert.Proof

open Idealize.ShloMosaic Idealize.ShloMosaic.TcCoe Idealize.SL.Sem

set_option maxRecDepth 65536 in
/-- The two printings of the kernel's body are one text. -/
theorem bodies_eq : @Cert.Kernel.cc0_body Bits _ _ = @Cert.KernelIdeal.cc0_body Bits _ _ := rfl

set_option maxRecDepth 65536 in
/-- The two printings of the kernel have one body table. -/
theorem defs_eq : Cert.Kernel.defs (F := Bits) = Cert.KernelIdeal.defs (F := Bits) := by
  refine congrArg (Pipeline.defs _) (congrArg Defs.onTc (funext fun a => ?_))
  match a with
  | 0 => rfl
  | ⟨_ + 1, h⟩ => exact absurd h (Nat.not_lt.2 (Nat.le_add_left _ _))

/-- The printed kernel's run at the bit-exact values: its text is the ideal kernel's. -/
theorem frame_kernel : Cert.quiescent_Kernel := by
  intro m ρ _
  rw [defs_eq]
  exact (θ_run Cert.KernelIdeal.defs _ _).mono (fun r (h : Done (F := Bits) m r) => And.intro (fun c => (h.1 c).2) h.2)
    (run_main (F := Bits) m ρ)

/-- The ideal kernel's run. -/
theorem frame_ideal : Cert.quiescent_KernelIdeal := fun m ρ _ =>
  (θ_run Cert.KernelIdeal.defs _ _).mono (fun _ h => ⟨fun c => (h.1 c).2, h.2⟩) (run_main (F := Ideal) m ρ)

/-- The ideal reference's run. -/
theorem frame_reference : Cert.quiescent_ReferenceIdeal := fun m ρ _ =>
  (θ_run Cert.ReferenceIdeal.defs _ _).mono (fun r h => ⟨fun c => (h c).2, sem_eq_zero_of_no_sems (by decide) r.2⟩)
    (Ref.run (F := Ideal) m ρ)

end Cert.Proof

end
-- ==== Proof.Pay.lean ====
/-
  What each block that the kernel computes holds at a place, over the reals: sums of products.
-/
module

public import proofs.«01_k».proof.Proof.Geo
public import Idealize.ShloMosaic.Lib.Pointwise

@[expose] public section

noncomputable section

namespace Cert.Proof

open Cert.KernelIdeal Cert.KernelIdeal.Gen
open Idealize.ShloMosaic Idealize.ShloMosaic.TcCoe

set_option maxRecDepth 16384

/-! ## Words -/

/-- A word is a number's word exactly when it reads as the number. -/
theorem word_iff (a : BitVec 32) (n : Nat) (h : n < 2 ^ 32) : a = BitVec.ofNat 32 n ↔ a.toNat = n := by
  rw [← BitVec.toNat_inj, BitVec.toNat_ofNat, Nat.mod_eq_of_lt h]

/-- The first slot of the experts of the device `k` further. -/
theorem base_fwd (c : Dev nD) (k : Fin 8) :
    Scalar.muli (Scalar.remsi (Scalar.addi (wd c) (BitVec.ofNat 32 k.val)) 8#32) 1024#32 = BitVec.ofNat 32 ((fwd c k).val * 1024) := by
  revert c k; decide +kernel
/-- The first slot of the experts of the device `k` before. -/
theorem base_bwd (c : Dev nD) (k : Fin 8) :
    Scalar.muli (Scalar.remsi (Scalar.addi (Scalar.subi (wd c) (BitVec.ofNat 32 k.val)) 8#32) 8#32) 1024#32 = BitVec.ofNat 32 ((bwd c k).val * 1024) := by
  revert c k; decide +kernel

/-- The word of place `j` of device `D`'s slots. -/
theorem place_word (j : Fin 1024) (D : Fin 8) : IntOp.addi (BitVec.ofNat 32 j.val) (BitVec.ofNat 32 (D.val * 1024)) = BitVec.ofNat 32 (D.val * 1024 + j.val) := by
  show BitVec.ofNat 32 j.val + BitVec.ofNat 32 (D.val * 1024) = _
  rw [← BitVec.ofNat_add, Nat.add_comm]

/-- A slot's number fits a word. -/
theorem place_lt (j : Fin 1024) (D : Fin 8) : D.val * 1024 + j.val < 2 ^ 32 := by have := j.isLt; have := D.isLt; omega

/-- One where either word is the third, zero elsewhere. -/
theorem either_word (a b w : BitVec 32) :
    (FloatOps.sitofp (F := Ideal) FTy.f32 (BitVec.setWidth 32 (IntOp.ori (IntOp.cmpi .eq a w) (IntOp.cmpi .eq b w))) : EReal) = if a = w ∨ b = w then 1 else 0 := by
  show (((BitVec.setWidth 32 (BitVec.ofBool (a == w) ||| BitVec.ofBool (b == w))).toInt : ℝ) : EReal) = _
  by_cases ha : a = w
  · rw [beq_iff_eq.mpr ha, if_pos (Or.inl ha)]
    rcases (b == w) with _ | _ <;> simp
  · rw [beq_eq_false_iff_ne.mpr ha]
    by_cases hb : b = w
    · rw [beq_iff_eq.mpr hb, if_pos (Or.inr hb)]; simp
    · rw [beq_eq_false_iff_ne.mpr hb, if_neg (not_or.mpr ⟨ha, hb⟩)]; simp

/-- A gate where the word is the other, zero elsewhere. -/
theorem gate_word (a w : BitVec 32) (g : EReal) : Scalar.select (IntOp.cmpi .eq a w) g 0 = if a = w then g else 0 := by
  show (if BitVec.ofBool (a == w) = 1 then g else 0) = _
  by_cases ha : a = w
  · rw [beq_iff_eq.mpr ha, if_pos ha]; rfl
  · rw [beq_eq_false_iff_ne.mpr ha, if_neg ha]; rfl

/-! ## The blocks -/

/-- A row of expert products: the row times the expert's weights. -/
theorem pay16_at (xa : Vec Ideal S1x8x128x1024 .bf16) (w : Vec Ideal S1x1024x1024 .bf16) (p : Fin 8) (q : Fin 128) (h : Fin 1024) :
    k0_pay16 (F := Ideal) xa w (ix4 0 p q h) = ∑ d : Fin 1024, (xa (ix4 0 p q d) : EReal) * w (ix3 0 d h) := by
  pointwise [k0_pay16]

/-- What a device sends to the device `k` further: at each of that device's places, the sum of the tokens whose slot it is. -/
theorem payX_at (c : Dev nD) (x : Vec Ideal S2048x1024 .f32) (s0 s1 : Vec Ideal S2048x1 .i32) (k : Fin 8) (j d : Fin 1024) :
    payX (F := Ideal) c x s0 s1 k (ix3 0 j d)
      = ∑ t : Fin 2048, (if (s0 (ix2 t 0) : BitVec 32).toNat = (fwd c k).val * 1024 + j.val ∨ (s1 (ix2 t 0) : BitVec 32).toNat = (fwd c k).val * 1024 + j.val
          then (1 : EReal) else 0) * x (ix2 t d) := by
  pointwise [payX, k0_pay5, k0_pay1, k0_pay2, k0_pay3]
  refine Finset.sum_congr rfl fun t _ => congrArg (· * _) ?_
  rw [either_word, base_fwd, place_word]
  exact if_congr (or_congr (word_iff _ _ (place_lt j _)) (word_iff _ _ (place_lt j _))) rfl rfl

/-- A step of the combination: each token takes its gates' multiples of the rows at its slots. -/
theorem payO_at (c : Dev nD) (k : Fin 8) (s0 : Vec Ideal S2048x1 .i32) (g0 : Vec Ideal S2048x1 .f32) (s1 : Vec Ideal S2048x1 .i32) (g1 : Vec Ideal S2048x1 .f32)
    (o : Vec Ideal S2048x1024 .f32) (y : Vec Ideal S1024x1024 .bf16) (t : Fin 2048) (h : Fin 1024) :
    payO (F := Ideal) c k s0 g0 s1 g1 o y (ix2 t h)
      = (o (ix2 t h) : EReal) + ∑ j : Fin 1024, ((if (s0 (ix2 t 0) : BitVec 32).toNat = (bwd c k).val * 1024 + j.val then (g0 (ix2 t 0) : EReal) else 0)
          + (if (s1 (ix2 t 0) : BitVec 32).toNat = (bwd c k).val * 1024 + j.val then (g1 (ix2 t 0) : EReal) else 0)) * y (ix2 j h) := by
  pointwise [payO, k0_pay32]
  refine congrArg (_ + ·) (Finset.sum_congr rfl fun j _ => congrArg (· * _) ?_)
  rw [base_bwd, place_word, gate_word, gate_word]
  exact congrArg₂ (· + ·) (if_congr (word_iff _ _ (place_lt j _)) rfl rfl) (if_congr (word_iff _ _ (place_lt j _)) rfl rfl)

/-- The combination starts from zero. -/
theorem pay26_at (t : Fin 2048) (h : Fin 1024) : k0_pay26 (F := Ideal) (ix2 t h) = (0 : EReal) := by
  pointwise [k0_pay26]

end Cert.Proof

end
-- ==== Proof.OutAt.lean ====
/-
  The kernel's result at a place, over the reals: the sum over every device's slots of a token's gates times the rows
  that come back from them.
-/
module

public import proofs.«01_k».proof.Proof.Protocol
public import proofs.«01_k».proof.Proof.Pay
public import Idealize.ShloMosaic.Lib.Pointwise.IndexBridge

@[expose] public section

noncomputable section

namespace Cert.Proof

open Cert.KernelIdeal Cert.KernelIdeal.Gen
open Idealize.ShloMosaic Idealize.ShloMosaic.TcCoe

set_option maxRecDepth 16384

variable (m : (ℓ : Loc nD τ sig) → Buf (Elt Ideal) ℓ)

/-! ## The inputs, as the arguments they are read from -/

/-- The staged tokens are the first argument. -/
theorem xIn_eq (c : Dev nD) : xIn (F := Ideal) m c = m ((c : Thread nD τ).loc main_arg0) :=
  Memref.read_access_unit_zero (Elt Ideal) main_arg0 (funext fun a => by fin_cases a <;> decide) (fun a => by fin_cases a <;> decide) _
/-- The staged first slots are the second argument. -/
theorem s0In_eq (c : Dev nD) : s0In (F := Ideal) m c = m ((c : Thread nD τ).loc main_arg1) :=
  Memref.read_access_unit_zero (Elt Ideal) main_arg1 (funext fun a => by fin_cases a <;> decide) (fun a => by fin_cases a <;> decide) _
/-- The staged second slots are the third argument. -/
theorem s1In_eq (c : Dev nD) : s1In (F := Ideal) m c = m ((c : Thread nD τ).loc main_arg2) :=
  Memref.read_access_unit_zero (Elt Ideal) main_arg2 (funext fun a => by fin_cases a <;> decide) (fun a => by fin_cases a <;> decide) _
/-- The staged first gates are the fourth argument. -/
theorem g0In_eq (c : Dev nD) : g0In (F := Ideal) m c = m ((c : Thread nD τ).loc main_arg3) :=
  Memref.read_access_unit_zero (Elt Ideal) main_arg3 (funext fun a => by fin_cases a <;> decide) (fun a => by fin_cases a <;> decide) _
/-- The staged second gates are the fifth argument. -/
theorem g1In_eq (c : Dev nD) : g1In (F := Ideal) m c = m ((c : Thread nD τ).loc main_arg4) :=
  Memref.read_access_unit_zero (Elt Ideal) main_arg4 (funext fun a => by fin_cases a <;> decide) (fun a => by fin_cases a <;> decide) _

/-! ## The rows that come back -/

/-- Going further from `c` by the distance from `c` to `D` leads to `D`. -/
theorem fwd_bwd (c D : Dev nD) : fwd c (bwd D c) = D := by revert c D; decide +kernel
/-- Different steps before a device are different devices. -/
theorem bwd_inj (c : Dev nD) : Function.Injective (bwd c) := by revert c; decide +kernel

/-- The token sums that device `D` holds from device `c`. -/
theorem XR_at (c D : Dev nD) (j d : Fin 1024) :
    (XR (F := Ideal) m D (ix3 c j d) : EReal)
      = ∑ u : Fin 2048, (if (s0In (F := Ideal) m c (ix2 u 0) : BitVec 32).toNat = D.val * 1024 + j.val ∨ (s1In (F := Ideal) m c (ix2 u 0) : BitVec 32).toNat = D.val * 1024 + j.val
          then (1 : EReal) else 0) * xIn (F := Ideal) m c (ix2 u d) := by
  have h := payX_at c (xIn m c) (s0In m c) (s1In m c) (bwd D c) j d
  rw [fwd_bwd] at h
  rw [← h, ix3_eq_valueIdx, ix3_eq_valueIdx]
  rfl

/-- The row that comes back to device `c` from place `j` of device `bwd c k`: the token sum times the expert's weights. -/
theorem YB_at (c : Dev nD) (k : Fin 8) (j h : Fin 1024) :
    (YB (F := Ideal) m c k (ix2 j h) : EReal)
      = ∑ d : Fin 1024, (XR (F := Ideal) m (bwd c k) (ix3 c j d) : EReal) * ewIn (F := Ideal) m (bwd c k) (ix3 (exp128 j) d h) := by
  have e := pay16_at (fun z : S1x8x128x1024.Idx => XA (F := Ideal) m (bwd c k) (exp128 j) (ValueIdx.ix4 (0 : Fin 2) (z 1 : Fin 8) (z 2 : Fin 128) (z 3 : Fin 1024)))
    (fun z : S1x1024x1024.Idx => WB (F := Ideal) m (bwd c k) (exp128 j) (ValueIdx.ix3 (0 : Fin 2) (z 1 : Fin 1024) (z 2 : Fin 1024))) c (pos128 j) h
  have e' : (YB (F := Ideal) m c k (ix2 j h) : EReal) = _ := e
  rw [e']
  refine Finset.sum_congr rfl fun d _ => ?_
  rw [ix3_eq_valueIdx, ix3_eq_valueIdx]
  have r := row128_exp_pos j
  show (XR (F := Ideal) m (bwd c k) (ValueIdx.ix3 c (row128 (exp128 j) (pos128 j)) d) : EReal) * _ = _
  rw [r]
  rfl

/-- Eight additions, one after the other, from zero. -/
theorem eight_steps (f : ℕ → EReal) (g : Fin 8 → EReal) (h0 : f 0 = 0) (h : ∀ k : Fin 8, f (k.val + 1) = f k.val + g k) : f 8 = ∑ k, g k := by
  have e : ∀ n, n ≤ 8 → f n = ∑ k : Fin 8, if k.val < n then g k else 0 := by
    intro n
    induction n with
    | zero => exact fun _ => h0.trans (Finset.sum_eq_zero fun k _ => if_neg (Nat.not_lt_zero _)).symm
    | succ n ih =>
      intro hn
      rw [h ⟨n, hn⟩, ih (Nat.le_of_succ_le hn), ← Finset.sum_ite_eq' Finset.univ (⟨n, hn⟩ : Fin 8) g |>.trans (if_pos (Finset.mem_univ _)), ← Finset.sum_add_distrib]
      refine Finset.sum_congr rfl fun k _ => ?_
      rcases Nat.lt_trichotomy k.val n with l | l | l
      · rw [if_pos l, if_neg fun e => absurd (congrArg Fin.val e) (Nat.ne_of_lt l), if_pos (Nat.lt_succ_of_lt l), add_zero]
      · rw [if_neg (by omega), if_pos (Fin.ext l), if_pos (by omega), zero_add]
      · rw [if_neg (by omega), if_neg fun e => absurd (congrArg Fin.val e) (Nat.ne_of_gt l), if_neg (by omega), add_zero]
  rw [e 8 le_rfl]
  exact Finset.sum_congr rfl fun k _ => if_pos k.isLt

/-- The result at a token and column. -/
theorem OUT_at (c : Dev nD) (t : Fin 2048) (h : Fin 1024) :
    (OUT (F := Ideal) m c 8 (ix2 t h) : EReal)
      = ∑ D : Fin 8, ∑ j : Fin 1024, ((if (s0In (F := Ideal) m c (ix2 t 0) : BitVec 32).toNat = D.val * 1024 + j.val then (g0In (F := Ideal) m c (ix2 t 0) : EReal) else 0)
          + (if (s1In (F := Ideal) m c (ix2 t 0) : BitVec 32).toNat = D.val * 1024 + j.val then (g1In (F := Ideal) m c (ix2 t 0) : EReal) else 0))
        * ∑ d : Fin 1024, (∑ u : Fin 2048, (if (s0In (F := Ideal) m c (ix2 u 0) : BitVec 32).toNat = D.val * 1024 + j.val ∨ (s1In (F := Ideal) m c (ix2 u 0) : BitVec 32).toNat = D.val * 1024 + j.val
            then (1 : EReal) else 0) * xIn (F := Ideal) m c (ix2 u d)) * ewIn (F := Ideal) m D (ix3 (exp128 j) d h) := by
  refine (eight_steps (fun n => (OUT (F := Ideal) m c n (ix2 t h) : EReal))
      (fun k => ∑ j : Fin 1024, ((if (s0In (F := Ideal) m c (ix2 t 0) : BitVec 32).toNat = (bwd c k).val * 1024 + j.val then (g0In (F := Ideal) m c (ix2 t 0) : EReal) else 0)
          + (if (s1In (F := Ideal) m c (ix2 t 0) : BitVec 32).toNat = (bwd c k).val * 1024 + j.val then (g1In (F := Ideal) m c (ix2 t 0) : EReal) else 0)) * YB (F := Ideal) m c k (ix2 j h))
      (pay26_at t h) fun k => ?_).trans
    (Fintype.sum_bijective (bwd c) (Finite.injective_iff_bijective.mp (bwd_inj c)) _ _ fun k => ?_)
  · show (OUT (F := Ideal) m c (k.val + 1) (ix2 t h) : EReal) = _
    rw [OUT_succ]
    exact payO_at c k (s0In m c) (g0In m c) (s1In m c) (g1In m c) (OUT m c k.val) (YB m c k) t h
  · refine Finset.sum_congr rfl fun j _ => congrArg₂ (· * ·) rfl ?_
    rw [YB_at]
    exact Finset.sum_congr rfl fun d _ => congrArg (· * _) (XR_at m c (bwd c k) j d)

end Cert.Proof

end
-- ==== Proof.RefAt.lean ====
/-
  The reference's result at a place, over the reals.
-/
module

public import proofs.«01_k».proof.Proof.Ref
public import Idealize.ShloMosaic.Lib.Pointwise

@[expose] public section

noncomputable section

namespace Cert.Proof.Ref

open Cert.ReferenceIdeal Cert.ReferenceIdeal.Gen
open Idealize.ShloMosaic Idealize.ShloMosaic.TcCoe

set_option maxRecDepth 16384

/-- The weights chosen for a token: those of the expert its word names, clamped to the experts there are. -/
theorem weights_at {α : Type} (w : S64x1024x1024.Idx → α) (idx : IVec S16384x1 32) (t : Fin 16384) (d h : Fin 1024) :
    Host.gather gather_S64x1024x1024_S16384x1_S16384x1024x1024_12_0_n_n_0_1_110241024 w idx (ix3 t d h)
      = w (ix3 ⟨min (idx (ix2 t 0)).toInt.toNat 63, by omega⟩ d h) := by
  let G := gather_S64x1024x1024_S16384x1_S16384x1024x1024_12_0_n_n_0_1_110241024
  have hN : ∀ a : Fin 3, a ∉ G.operandBatchingDims := fun a => List.not_mem_nil
  have h0 : ∀ a : Fin 3, a.val ≠ 0 → a ∉ ([0] : List (Fin 3)) := fun a ha h => ha (congrArg Fin.val (List.mem_singleton.mp h))
  have hs : ∀ a : Fin 3, a.val ≠ 0 → G.start (ix3 t d h) idx a = 0 := fun a ha => by unfold GatherDims.start; exact dif_neg (h0 a ha)
  have e0 : G.start (ix3 t d h) idx 0 = min (idx (ix2 t 0)).toInt.toNat 63 := by
    unfold GatherDims.start
    refine (dif_pos (List.mem_singleton.mpr rfl : (0 : Fin 3) ∈ ([0] : List (Fin 3)))).trans ?_
    refine congrArg (fun z => min (idx z).toInt.toNat 63) (funext fun b => Fin.ext ?_)
    match b with
    | ⟨0, _⟩ => rfl
    | ⟨1, _⟩ => rfl
  have o0 : G.offCoord (ix3 t d h) 0 = 0 := G.offCoord_eq_zero _ _ (fun h => ((GatherDims.mem_sKept _ _).mp h).1 (List.mem_singleton.mpr rfl))
  have o1 : G.offCoord (ix3 t d h) 1 = d.val := by
    unfold GatherDims.offCoord
    exact (dif_pos ((GatherDims.mem_sKept _ _).mpr ⟨h0 1 (by decide), hN 1⟩)).trans rfl
  have o2 : G.offCoord (ix3 t d h) 2 = h.val := by
    unfold GatherDims.offCoord
    exact (dif_pos ((GatherDims.mem_sKept _ _).mpr ⟨h0 2 (by decide), hN 2⟩)).trans rfl
  unfold Host.gather
  refine congrArg w (funext fun a => Fin.ext ?_)
  show G.start (ix3 t d h) idx a + G.batchCoord (ix3 t d h) a + G.offCoord (ix3 t d h) a = _
  rw [G.batchCoord_eq_zero _ _ (hN a), Nat.add_zero]
  match a with
  | ⟨0, _⟩ => exact congrArg₂ (· + ·) e0 o0
  | ⟨1, _⟩ => exact (congrArg₂ (· + ·) (hs 1 (by decide)) o1).trans (Nat.zero_add _)
  | ⟨2, _⟩ => exact (congrArg₂ (· + ·) (hs 2 (by decide)) o2).trans (Nat.zero_add _)

/-- The expert a slot's word names. -/
def expert (s : BitVec 32) : Fin 64 := ⟨min (IntOp.divsi .host s 128#32).toInt.toNat 63, by omega⟩

/-- The word that picks a token's expert. -/
theorem index_at (s : IVec S16384x1 32) (t : Fin 16384) :
    broadcastInDim S16384x1 ![0] bcast_S16384_S16384x1_0
      (shapeCast S16384 (Host.divsi s (broadcastInDim S16384x1 ![] bcast_S_S16384x1 (constantI S_ 32 128#32))) shapeCasts_S16384x1_S16384) (ix2 t 0)
      = IntOp.divsi .host (s (ix2 t 0)) 128#32 := by
  pointwise []

/-- Signed between zero and 8192 is unsigned below 8192. -/
theorem in_range (a : BitVec 32) (p q : EReal) :
    Scalar.select (IntOp.andi (IntOp.cmpi .sge a 0#32) (IntOp.cmpi .slt a 8192#32)) p q = if a.toNat < 8192 then p else q := by
  show (if BitVec.ofBool ((0#32).sle a) &&& BitVec.ofBool (a.slt 8192#32) = 1 then p else q) = _
  refine if_congr ?_ rfl rfl
  have h : a.toNat < 8192 ↔ ((0#32).sle a && a.slt 8192#32) = true := by
    rw [Bool.and_eq_true, BitVec.sle_iff_toInt_le, BitVec.slt_iff_toInt_lt, show (0#32).toInt = 0 from rfl, show (8192#32).toInt = 8192 from rfl, BitVec.toInt_eq_toNat_cond]
    have := a.isLt
    split <;> omega
  rw [h]
  rcases (0#32).sle a with _ | _ <;> rcases a.slt 8192#32 with _ | _ <;> decide

/-- One slot's contribution at a place. -/
theorem chosen_at (x : FVec Ideal S16384x1024 .f32) (s : IVec S16384x1 32) (w : FVec Ideal S64x1024x1024 .bf16) (t : Fin 16384) (h : Fin 1024) :
    (chosen (F := Ideal) x s w (ix2 t h) : EReal)
      = if (s (ix2 t 0)).toNat < 8192 then ∑ d : Fin 1024, (x (ix2 t d) : EReal) * w (ix3 (expert (s (ix2 t 0))) d h) else 0 := by
  pointwise [chosen]
  refine (in_range _ _ _).trans (if_congr Iff.rfl (Finset.sum_congr rfl fun d _ => ?_) ?_)
  · rw [weights_at]
    exact congrArg (fun e => (x (ix2 t d) : EReal) * w (ix3 e d h)) (Fin.ext (congrArg (fun e : BitVec 32 => min e.toInt.toNat 63) (index_at s t)))
  · show constant (F := Ideal) S_ .f32 0x00000000#32 ix0 = (0 : EReal)
    pointwise []

/-- The reference's result at a place. -/
theorem result_at (x : FVec Ideal S16384x1024 .f32) (s0 s1 : IVec S16384x1 32) (g0 g1 : FVec Ideal S16384x1 .f32) (w : FVec Ideal S64x1024x1024 .bf16)
    (t : Fin 16384) (h : Fin 1024) :
    (result (F := Ideal) x s0 s1 g0 g1 w (ix2 t h) : EReal)
      = g0 (ix2 t 0) * (if (s0 (ix2 t 0)).toNat < 8192 then ∑ d : Fin 1024, (x (ix2 t d) : EReal) * w (ix3 (expert (s0 (ix2 t 0))) d h) else 0)
        + g1 (ix2 t 0) * (if (s1 (ix2 t 0)).toNat < 8192 then ∑ d : Fin 1024, (x (ix2 t d) : EReal) * w (ix3 (expert (s1 (ix2 t 0))) d h) else 0) := by
  rw [← chosen_at, ← chosen_at]
  pointwise [result]

/-- The expert of place `j` of device `D`'s slots: its `j / 128`th. -/
theorem expert_place (a : BitVec 32) (D : Fin 8) (j : Fin 1024) (h : a.toNat = D.val * 1024 + j.val) : (expert a).val = D.val * 8 + j.val / 128 := by
  have hd := D.isLt
  have hj := j.isLt
  have hn : IntOp.divsi .host a 128#32 = BitVec.ofNat 32 (D.val * 8 + j.val / 128) := by
    unfold IntOp.divsi
    rw [if_neg (by unfold IntOp.SDivCorner; simp), ← BitVec.toInt_inj, BitVec.toInt_sdiv_of_ne_or_ne _ _ (Or.inr (by decide)), show (128#32).toInt = 128 from rfl, BitVec.toInt_eq_toNat_cond, BitVec.toInt_eq_toNat_cond, BitVec.toNat_ofNat, h]
    rw [Nat.mod_eq_of_lt (by omega), if_pos (by omega), if_pos (by omega), show (128 : ℤ) = ((128 : ℕ) : ℤ) from rfl]
    rw [← Int.ofNat_tdiv]
    omega
  show min (IntOp.divsi .host a 128#32).toInt.toNat 63 = _
  rw [hn, BitVec.toInt_eq_toNat_cond, BitVec.toNat_ofNat]
  omega

end Cert.Proof.Ref

end
-- ==== Proof.Combine.lean ====
/-
  The combination as sums over the reals: adding up a token's gated rows over every slot there is leaves its rows at
  its own two slots.
-/
module

public import proofs.«01_k».proof.Proof.Geo
public import Mathlib.Data.EReal.Operations

@[expose] public section

noncomputable section

namespace Cert.Proof

open Idealize.ShloMosaic

/-- A value standing at one slot, added up over the slots: it is met once where the slot is one of them. -/
theorem sum_slot (s : ℕ) (v : EReal) :
    (∑ D : Fin 8, ∑ j : Fin 1024, if s = D.val * 1024 + j.val then v else 0) = if s < 8192 then v else 0 := by
  by_cases hs : s < 8192
  · rw [if_pos hs, Finset.sum_eq_single (⟨s / 1024, by omega⟩ : Fin 8), Finset.sum_eq_single (⟨s % 1024, by omega⟩ : Fin 1024)]
    · exact if_pos (by show s = s / 1024 * 1024 + s % 1024; omega)
    · intro j _ hj
      refine if_neg fun h => hj (Fin.ext ?_)
      show j.val = s % 1024
      have := j.isLt
      change s = s / 1024 * 1024 + j.val at h
      omega
    · exact fun h => absurd (Finset.mem_univ _) h
    · intro D _ hD
      refine Finset.sum_eq_zero fun j _ => if_neg fun h => hD (Fin.ext ?_)
      show D.val = s / 1024
      have := j.isLt
      omega
    · exact fun h => absurd (Finset.mem_univ _) h
  · rw [if_neg hs]
    refine Finset.sum_eq_zero fun D _ => Finset.sum_eq_zero fun j _ => if_neg fun h => ?_
    have := j.isLt
    have := D.isLt
    omega

/-- The tokens at a slot, added up: where it is the slot of one token alone, that token. -/
theorem sum_token (p : Fin 2048 → Prop) [DecidablePred p] (x : Fin 2048 → EReal) (t : Fin 2048) (h : p t) (hu : ∀ u, p u → u = t) :
    (∑ u, (if p u then (1 : EReal) else 0) * x u) = x t := by
  rw [Finset.sum_eq_single t]
  · rw [if_pos h, one_mul]
  · intro u _ hne
    rw [if_neg fun e => hne (hu u e), zero_mul]
  · exact fun h => absurd (Finset.mem_univ _) h

/-- The combination: each slot holds its tokens' row times the weights of its expert; a token takes its gates' multiples of the rows
    at its slots. Where no two tokens have one slot, that is each gate times the token's own row times the weights of its slot's expert. -/
theorem combine_sum (s0 s1 : Fin 2048 → ℕ) (g0 g1 : EReal) (x : Fin 2048 → Fin 1024 → EReal) (W : Fin 8 → Fin 1024 → Fin 1024 → EReal) (t : Fin 2048)
    (h00 : ∀ a b, s0 a < 8192 → s0 a = s0 b → a = b) (h11 : ∀ a b, s1 a < 8192 → s1 a = s1 b → a = b)
    (h01 : ∀ a b, s0 a < 8192 → s0 a ≠ s1 b) (Z0 Z1 : EReal)
    (hz0 : ∀ D j, s0 t = D.val * 1024 + j.val → Z0 = ∑ d, x t d * W D j d)
    (hz1 : ∀ D j, s1 t = D.val * 1024 + j.val → Z1 = ∑ d, x t d * W D j d) :
    (∑ D : Fin 8, ∑ j : Fin 1024, ((if s0 t = D.val * 1024 + j.val then g0 else 0) + (if s1 t = D.val * 1024 + j.val then g1 else 0))
        * ∑ d, (∑ u, (if s0 u = D.val * 1024 + j.val ∨ s1 u = D.val * 1024 + j.val then (1 : EReal) else 0) * x u d) * W D j d)
      = (if s0 t < 8192 then g0 * Z0 else 0) + (if s1 t < 8192 then g1 * Z1 else 0) := by
  rw [← sum_slot, ← sum_slot, ← Finset.sum_add_distrib]
  refine Finset.sum_congr rfl fun D _ => ?_
  rw [← Finset.sum_add_distrib]
  refine Finset.sum_congr rfl fun j _ => ?_
  have hn : D.val * 1024 + j.val < 8192 := by have := D.isLt; have := j.isLt; omega
  by_cases e0 : s0 t = D.val * 1024 + j.val
  · have e1 : ¬ s1 t = D.val * 1024 + j.val := fun e => h01 t t (e0 ▸ hn) (e0.trans e.symm)
    rw [if_pos e0, if_neg e1, if_pos e0, if_neg e1, add_zero, add_zero, hz0 D j e0]
    refine congrArg (g0 * ·) (Finset.sum_congr rfl fun d _ => congrArg (· * _) ?_)
    refine sum_token _ (fun u => x u d) t (Or.inl e0) fun u hu => ?_
    rcases hu with hu | hu
    · exact (h00 t u (e0 ▸ hn) (e0.trans hu.symm)).symm
    · exact absurd (e0.trans hu.symm) (h01 t u (e0 ▸ hn))
  · by_cases e1 : s1 t = D.val * 1024 + j.val
    · rw [if_neg e0, if_pos e1, if_neg e0, if_pos e1, zero_add, zero_add, hz1 D j e1]
      refine congrArg (g1 * ·) (Finset.sum_congr rfl fun d _ => congrArg (· * _) ?_)
      refine sum_token _ (fun u => x u d) t (Or.inr e1) fun u hu => ?_
      rcases hu with hu | hu
      · exact absurd (hu.trans e1.symm) (h01 u t (hu ▸ hn))
      · exact (h11 t u (e1 ▸ hn) (e1.trans hu.symm)).symm
    · rw [if_neg e0, if_neg e1, if_neg e0, if_neg e1, add_zero, zero_mul]

end Cert.Proof

end
-- ==== Proof.Distinct.lean ====
/-
  What the precondition says of one device's slots: no two of its tokens have one slot.
-/
module

public import proofs.«01_k».proof.Proof.Gen.Pre_slots_distinct_KernelIdeal
public import Idealize.ShloMosaic.Lib.Pointwise

@[expose] public section

noncomputable section

namespace Cert.Proof.Distinct

open Cert.Pre_slots_distinct_KernelIdeal Cert.Pre_slots_distinct_KernelIdeal.Gen
open Idealize.ShloMosaic

set_option maxRecDepth 16384

/-! ## Bits -/

/-- A conjunction of bits is one when both are. -/
theorem and_bit (p q : BitVec 1) : IntOp.andi p q = 1#1 ↔ p = 1#1 ∧ q = 1#1 := by revert p q; decide
/-- A disjunction of bits is one when either is. -/
theorem or_bit (p q : BitVec 1) : IntOp.ori p q = 1#1 ↔ p = 1#1 ∨ q = 1#1 := by revert p q; decide
/-- A truth value's bit is one when it is true. -/
theorem bool_bit (p : Bool) : BitVec.ofBool p = 1#1 ↔ p = true := by revert p; decide

/-- The comparison for equality is one exactly when the words are equal. -/
theorem eq_bit (a b : BitVec 32) : IntOp.cmpi .eq a b = 1#1 ↔ a = b := (bool_bit _).trans beq_iff_eq
/-- The comparison for difference is one exactly when the words differ. -/
theorem ne_bit (a b : BitVec 32) : IntOp.cmpi .ne a b = 1#1 ↔ a ≠ b := (bool_bit _).trans bne_iff_ne

/-- A word that is no slot is unsigned no less than 8192. -/
theorem free_bit (a : BitVec 32) : IntOp.ori (IntOp.cmpi .slt a 0#32) (IntOp.cmpi .sge a 8192#32) = 1#1 ↔ 8192 ≤ a.toNat := by
  rw [or_bit]
  show (BitVec.ofBool (a.slt 0#32) = 1#1 ∨ BitVec.ofBool ((8192#32).sle a) = 1#1) ↔ _
  rw [bool_bit, bool_bit, BitVec.sle_iff_toInt_le, BitVec.slt_iff_toInt_lt, show (0#32).toInt = 0 from rfl, show (8192#32).toInt = 8192 from rfl, BitVec.toInt_eq_toNat_cond]
  have := a.isLt
  split <;> omega

/-- The words of two tokens' numbers are one word exactly when the tokens are one. -/
theorem token_word (a b : Fin 2048) : BitVec.ofNat 32 a.val = BitVec.ofNat 32 b.val ↔ a = b := by
  rw [← BitVec.toNat_inj, BitVec.toNat_ofNat, BitVec.toNat_ofNat, Fin.ext_iff]
  have := a.isLt
  have := b.isLt
  omega

/-- The precondition at a pair of tokens: a slot that both have in one of the two choices is one token's, and none is a first choice
    and a second. -/
theorem distinct_at (x : FVec Ideal S2048x1024 .f32) (s0 s1 : IVec S2048x1 32) (g0 g1 : FVec Ideal S2048x1 .f32) (w : FVec Ideal S8x1024x1024 .bf16)
    (hp : fn (F := Ideal) x s0 s1 g0 g1 w = fun _ => 1#1) (a b : Fin 2048) :
    ((s0 (ix2 a 0)).toNat < 8192 → (s0 (ix2 a 0)).toNat = (s0 (ix2 b 0)).toNat → a = b)
      ∧ ((s1 (ix2 a 0)).toNat < 8192 → (s1 (ix2 a 0)).toNat = (s1 (ix2 b 0)).toNat → a = b)
      ∧ ((s0 (ix2 a 0)).toNat < 8192 → (s0 (ix2 a 0)).toNat ≠ (s1 (ix2 b 0)).toNat) := by
  have h : fn (F := Ideal) x s0 s1 g0 g1 w (ix2 a b) = 1#1 := congrFun hp _
  have e : fn (F := Ideal) x s0 s1 g0 g1 w (ix2 a b)
      = IntOp.andi
          (IntOp.andi
            (IntOp.ori (IntOp.ori (IntOp.ori (IntOp.cmpi .slt (s0 (ix2 a 0)) 0#32) (IntOp.cmpi .sge (s0 (ix2 a 0)) 8192#32))
                (IntOp.cmpi .eq (BitVec.ofNat 32 a.val) (BitVec.ofNat 32 b.val)))
              (IntOp.cmpi .ne (s0 (ix2 a 0)) (s0 (ix2 b 0))))
            (IntOp.ori (IntOp.ori (IntOp.ori (IntOp.cmpi .slt (s1 (ix2 a 0)) 0#32) (IntOp.cmpi .sge (s1 (ix2 a 0)) 8192#32))
                (IntOp.cmpi .eq (BitVec.ofNat 32 a.val) (BitVec.ofNat 32 b.val)))
              (IntOp.cmpi .ne (s1 (ix2 a 0)) (s1 (ix2 b 0)))))
          (IntOp.ori (IntOp.ori (IntOp.cmpi .slt (s0 (ix2 a 0)) 0#32) (IntOp.cmpi .sge (s0 (ix2 a 0)) 8192#32))
            (IntOp.cmpi .ne (s0 (ix2 a 0)) (s1 (ix2 b 0)))) := by
    pointwise [fn, fn_part1]
  rw [e, and_bit, and_bit, or_bit, or_bit _ (IntOp.cmpi .ne (s1 (ix2 a 0)) (s1 (ix2 b 0))), or_bit _ (IntOp.cmpi .ne (s0 (ix2 a 0)) (s1 (ix2 b 0))),
    or_bit _ (IntOp.cmpi .eq _ _), or_bit _ (IntOp.cmpi .eq _ _), free_bit, free_bit, eq_bit, token_word, ne_bit, ne_bit, ne_bit] at h
  obtain ⟨⟨h0, h1⟩, h2⟩ := h
  refine ⟨fun l q => ?_, fun l q => ?_, fun l q => ?_⟩
  · rcases h0 with (h | h) | h
    · exact absurd l (Nat.not_lt.mpr h)
    · exact h
    · exact absurd (BitVec.eq_of_toNat_eq q) h
  · rcases h1 with (h | h) | h
    · exact absurd l (Nat.not_lt.mpr h)
    · exact h
    · exact absurd (BitVec.eq_of_toNat_eq q) h
  · rcases h2 with h | h
    · exact absurd l (Nat.not_lt.mpr h)
    · exact absurd (BitVec.eq_of_toNat_eq q) h

end Cert.Proof.Distinct

end
-- ==== Proof.Value.lean ====
/-
  Over the reals the kernel's result on each device is that device's block of the reference's.
-/
module

public import proofs.«01_k».proof.Proof.OutAt
public import proofs.«01_k».proof.Proof.RefAt
public import proofs.«01_k».proof.Proof.Combine
public import proofs.«01_k».proof.Proof.Distinct
public import proofs.«01_k».proof.Proof.Run
public import proofs.«01_k».proof.Defs

@[expose] public section

noncomputable section

namespace Cert.Proof

open Cert.KernelIdeal Cert.KernelIdeal.Gen
open Idealize.ShloMosaic Idealize.ShloMosaic.TcCoe Idealize.SL.Sem

set_option maxRecDepth 16384

/-- A device's token among all the tokens; a device's expert among all the experts. -/
abbrev allT (c : Fin 8) (t : Fin 2048) : Fin 16384 := ⟨c.val * 2048 + t.val, by have := c.isLt; have := t.isLt; omega⟩
abbrev allE (D e : Fin 8) : Fin 64 := ⟨D.val * 8 + e.val, by have := D.isLt; have := e.isLt; omega⟩

/-- A device's block of rows, read. -/
theorem block_rows {α : Type} {n : Nat} (c : Fin 8) (v : (⟨2, ![16384, n]⟩ : Shape).Idx → α) (hT : Layout.Tiles ⟨2, ![2048, n]⟩ ⟨2, ![16384, n]⟩ 0 8)
    (t : Fin 2048) (d : Fin n) : Layout.block ⟨2, ![2048, n]⟩ ⟨2, ![16384, n]⟩ 0 8 c v hT (ix2 t d) = v (ix2 (allT c t) d) :=
  congrArg v (funext fun a => Fin.ext (match a with | ⟨0, _⟩ => rfl | ⟨1, _⟩ => rfl))

/-- A device's block of experts, read. -/
theorem block_experts {α : Type} (c : Fin 8) (v : (⟨3, ![64, 1024, 1024]⟩ : Shape).Idx → α) (hT : Layout.Tiles ⟨3, ![8, 1024, 1024]⟩ ⟨3, ![64, 1024, 1024]⟩ 0 8)
    (e : Fin 8) (d h : Fin 1024) : Layout.block ⟨3, ![8, 1024, 1024]⟩ ⟨3, ![64, 1024, 1024]⟩ 0 8 c v hT (ix3 e d h) = v (ix3 (allE c e) d h) :=
  congrArg v (funext fun a => Fin.ext (match a with | ⟨0, _⟩ => rfl | ⟨1, _⟩ => rfl | ⟨2, _⟩ => rfl))

variable (m : (ℓ : Loc nD τ sig) → Buf (Elt Ideal) ℓ)

/-- A slot's contribution: the gate times the token's row times the weights of the expert whose slot it is. -/
theorem row_product (x' : FVec Ideal Cert.ReferenceIdeal.S16384x1024 .f32) (w' : FVec Ideal Cert.ReferenceIdeal.S64x1024x1024 .bf16) (c : Dev nD)
    (hx : ∀ t d, (xIn (F := Ideal) m c (ix2 t d) : EReal) = x' (ix2 (allT c t) d))
    (hw : ∀ (D : Dev nD) (e : Fin 8) (d h : Fin 1024), (ewIn (F := Ideal) m D (ix3 e d h) : EReal) = w' (ix3 (allE D e) d h))
    (s : BitVec 32) (t : Fin 2048) (h : Fin 1024) (D : Fin 8) (j : Fin 1024) (e : s.toNat = D.val * 1024 + j.val) :
    (∑ d : Fin 1024, (x' (ix2 (allT c t) d) : EReal) * w' (ix3 (Ref.expert s) d h))
      = ∑ d : Fin 1024, (xIn (F := Ideal) m c (ix2 t d) : EReal) * ewIn (F := Ideal) m D (ix3 (exp128 j) d h) := by
  refine Finset.sum_congr rfl fun d _ => ?_
  rw [hx, hw, show Ref.expert s = allE D (exp128 j) from Fin.ext (Ref.expert_place s D j e)]

/-- The kernel's result at a device's token is the reference's at that token of all. -/
theorem value_at (c : Dev nD) (x' : FVec Ideal Cert.ReferenceIdeal.S16384x1024 .f32) (s0' s1' : IVec Cert.ReferenceIdeal.S16384x1 32)
    (g0' g1' : FVec Ideal Cert.ReferenceIdeal.S16384x1 .f32) (w' : FVec Ideal Cert.ReferenceIdeal.S64x1024x1024 .bf16)
    (hx : ∀ t d, (xIn (F := Ideal) m c (ix2 t d) : EReal) = x' (ix2 (allT c t) d))
    (hs0 : ∀ t, (s0In (F := Ideal) m c (ix2 t 0) : BitVec 32) = s0' (ix2 (allT c t) 0))
    (hs1 : ∀ t, (s1In (F := Ideal) m c (ix2 t 0) : BitVec 32) = s1' (ix2 (allT c t) 0))
    (hg0 : ∀ t, (g0In (F := Ideal) m c (ix2 t 0) : EReal) = g0' (ix2 (allT c t) 0))
    (hg1 : ∀ t, (g1In (F := Ideal) m c (ix2 t 0) : EReal) = g1' (ix2 (allT c t) 0))
    (hw : ∀ (D : Dev nD) (e : Fin 8) (d h : Fin 1024), (ewIn (F := Ideal) m D (ix3 e d h) : EReal) = w' (ix3 (allE D e) d h))
    (hd : ∀ a b : Fin 2048,
      ((s0In (F := Ideal) m c (ix2 a 0) : BitVec 32).toNat < 8192 → (s0In (F := Ideal) m c (ix2 a 0) : BitVec 32).toNat = (s0In (F := Ideal) m c (ix2 b 0) : BitVec 32).toNat → a = b)
      ∧ ((s1In (F := Ideal) m c (ix2 a 0) : BitVec 32).toNat < 8192 → (s1In (F := Ideal) m c (ix2 a 0) : BitVec 32).toNat = (s1In (F := Ideal) m c (ix2 b 0) : BitVec 32).toNat → a = b)
      ∧ ((s0In (F := Ideal) m c (ix2 a 0) : BitVec 32).toNat < 8192 → (s0In (F := Ideal) m c (ix2 a 0) : BitVec 32).toNat ≠ (s1In (F := Ideal) m c (ix2 b 0) : BitVec 32).toNat))
    (t : Fin 2048) (h : Fin 1024) :
    (OUT (F := Ideal) m c 8 (ix2 t h) : EReal) = Ref.result (F := Ideal) x' s0' s1' g0' g1' w' (ix2 (allT c t) h) := by
  rw [OUT_at, Ref.result_at, ← hs0, ← hs1, ← hg0, ← hg1, mul_ite, mul_ite, mul_zero, mul_zero]
  exact combine_sum (fun u => (s0In (F := Ideal) m c (ix2 u 0) : BitVec 32).toNat) (fun u => (s1In (F := Ideal) m c (ix2 u 0) : BitVec 32).toNat)
    (g0In (F := Ideal) m c (ix2 t 0)) (g1In (F := Ideal) m c (ix2 t 0)) (fun u d => (xIn (F := Ideal) m c (ix2 u d) : EReal))
    (fun D j d => (ewIn (F := Ideal) m D (ix3 (exp128 j) d h) : EReal)) t (fun a b => (hd a b).1) (fun a b => (hd a b).2.1) (fun a b => (hd a b).2.2) _ _
    (row_product m x' w' c hx hw _ t h) (row_product m x' w' c hx hw _ t h)

/-- Over the reals, from blocks of the reference's arguments on which no two tokens of a device have one slot, the kernel's results are the
    blocks of the reference's result. -/
theorem algebraic : Cert.algebraic_KernelIdeal_ReferenceIdeal_pre_slots_distinct_KernelIdeal := by
  intro m ρ m' ρ' hp ha
  refine ⟨Ref.result (F := Ideal) (m' ((0 : Dev Cert.ReferenceIdeal.nD).tc.loc Cert.ReferenceIdeal.main_arg0)) (m' ((0 : Dev Cert.ReferenceIdeal.nD).tc.loc Cert.ReferenceIdeal.main_arg1))
    (m' ((0 : Dev Cert.ReferenceIdeal.nD).tc.loc Cert.ReferenceIdeal.main_arg2)) (m' ((0 : Dev Cert.ReferenceIdeal.nD).tc.loc Cert.ReferenceIdeal.main_arg3))
    (m' ((0 : Dev Cert.ReferenceIdeal.nD).tc.loc Cert.ReferenceIdeal.main_arg4)) (m' ((0 : Dev Cert.ReferenceIdeal.nD).tc.loc Cert.ReferenceIdeal.main_arg5)), ?_, ?_⟩
  · refine (θ_run defs _ _).mono (fun r h c => ⟨(h.1 c).1.trans ?_, (h.1 c).2⟩) (run_main (F := Ideal) m ρ)
    funext i
    obtain ⟨t, d, rfl⟩ : ∃ (t : Fin 2048) (d : Fin 1024), i = ix2 t d :=
      ⟨i 0, i 1, funext fun a => match a with | ⟨0, _⟩ => rfl | ⟨1, _⟩ => rfl⟩
    refine Eq.trans ?_ (block_rows c _ _ t d).symm
    refine value_at m c _ _ _ _ _ _ (fun t d => ?_) (fun t => ?_) (fun t => ?_) (fun t => ?_) (fun t => ?_) (fun D e d h => ?_) (fun a b => ?_) t d
    · rw [xIn_eq]; exact (congrFun (ha c).1 _).trans (block_rows c _ _ t d)
    · rw [s0In_eq]; exact (congrFun (ha c).2.1 _).trans (block_rows c _ _ t 0)
    · rw [s1In_eq]; exact (congrFun (ha c).2.2.1 _).trans (block_rows c _ _ t 0)
    · rw [g0In_eq]; exact (congrFun (ha c).2.2.2.1 _).trans (block_rows c _ _ t 0)
    · rw [g1In_eq]; exact (congrFun (ha c).2.2.2.2.1 _).trans (block_rows c _ _ t 0)
    · exact (congrFun (ha D).2.2.2.2.2 _).trans (block_experts D _ _ e d h)
    · rw [s0In_eq, s1In_eq]; exact Distinct.distinct_at _ _ _ _ _ _ (hp c) a b
  · exact (θ_run Cert.ReferenceIdeal.defs _ _).mono (fun _ h => h 0) (Ref.run (F := Ideal) m' ρ')

end Cert.Proof

end
-- ==== Proof.lean ====
/-
  The proof of `Cert.Claim`: every program runs to its end with its arguments and semaphores as they were, and over the
  reals the kernel's result is the reference's.
-/
module

public import proofs.«01_k».proof.Defs
public import proofs.«01_k».proof.Proof.Frames
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.Pre_slots_distinct_KernelIdeal
public import proofs.«01_k».proof.Proof.Gen.Pre_slots_distinct_ReferenceIdeal

@[expose] public section

noncomputable section

namespace Cert.Proof

/-- Everything that the certificate claims. -/
theorem claim : Cert.Claim :=
  ⟨Cert.Kernel.Gen.facts, Cert.KernelIdeal.Gen.facts, Cert.ReferenceIdeal.Gen.facts, Cert.Pre_slots_distinct_KernelIdeal.Gen.facts,
    Cert.Pre_slots_distinct_ReferenceIdeal.Gen.facts, frame_kernel, frame_ideal, fun m ρ _ => frame_ideal m ρ trivial, frame_reference,
    fun m ρ _ => frame_reference m ρ trivial, trivial, algebraic⟩

end Cert.Proof

end
